-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S256x4096 : Shape := ⟨2, ![256, 4096]⟩
abbrev S4096x4096 : Shape := ⟨2, ![4096, 4096]⟩
abbrev S8x4096 : Shape := ⟨2, ![8, 4096]⟩
abbrev S_ : Shape := ⟨0, ![]⟩
abbrev S16 : Shape := ⟨1, ![16]⟩
abbrev S1x16 : Shape := ⟨2, ![1, 16]⟩

abbrev nBuf : Table → Nat
  | .hbm => 4
  | .local .tc .vmem => 8
  | .local .scVector .vmem => 2
  | _ => 0

abbrev bufTy : (tb : Table) → Fin (nBuf tb) → BufTy
  | .hbm, ⟨0, _⟩ => ⟨S16384x4096, .f32⟩
  | .hbm, ⟨1, _⟩ => ⟨S16384x4096, .f32⟩
  | .hbm, ⟨2, _⟩ => ⟨S4096x4096, .f32⟩
  | .hbm, ⟨3, _⟩ => ⟨S16384x4096, .f32⟩
  | .local .tc .vmem, ⟨0, _⟩ => ⟨S256x4096, .f32⟩
  | .local .tc .vmem, ⟨1, _⟩ => ⟨S256x4096, .f32⟩
  | .local .tc .vmem, ⟨2, _⟩ => ⟨S256x4096, .f32⟩
  | .local .tc .vmem, ⟨3, _⟩ => ⟨S256x4096, .f32⟩
  | .local .tc .vmem, ⟨4, _⟩ => ⟨S256x4096, .f32⟩
  | .local .tc .vmem, ⟨5, _⟩ => ⟨S256x4096, .f32⟩
  | .local .tc .vmem, ⟨6, _⟩ => ⟨S256x4096, .f32⟩
  | .local .tc .vmem, ⟨7, _⟩ => ⟨S256x4096, .f32⟩
  | .local .scVector .vmem, ⟨0, _⟩ => ⟨S8x4096, .f32⟩
  | .local .scVector .vmem, ⟨1, _⟩ => ⟨S8x4096, .f32⟩
  | _, _ => ⟨S16384x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v1_scv : Ref sig .scVector := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 6
abbrev cc2_sem0_1 : DmaSem sig := 7
abbrev cc2_sem1_0 : DmaSem sig := 8
abbrev cc2_sem1_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_0 : BitVec 32 := 0#32
  let c16_i32 : BitVec 32 := 16#32
  let v4 : BitVec 32 := Scalar.addi c0_i32_0 c16_i32
  let c1_i32 : BitVec 32 := 1#32
  ⟨c0_i32_0, v4, c1_i32⟩
def k1_off1 (i : grid1.Coords) (k1_t1 : Fin k1_t1_loop.trips) : Fin 2 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let c0_i32_0 : BitVec 32 := 0#32
  let c1_i32 : BitVec 32 := 1#32
  let arg6 : BitVec 32 := Scf.iv c0_i32_0 c1_i32 k1_t1
  let c8_i32 : BitVec 32 := 8#32
  let v6 : BitVec 32 := Scalar.muli arg6 c8_i32
  let v7 : BitVec 32 := Scalar.addi v3 v6
  let c0_i32_43_r0 : BitVec 32 := 0#32
  ![v7.toNat, 0]
@[reducible] def k1_t2_loop : Scf.Loop 32 :=
  let c0_i32_3 : BitVec 32 := 0#32
  let c256_i32 : BitVec 32 := 256#32
  let v8 : BitVec 32 := Scalar.addi c0_i32_3 c256_i32
  let c1_i32_4 : BitVec 32 := 1#32
  ⟨c0_i32_3, v8, c1_i32_4⟩
def k1_off2 (k1_t2 : Fin k1_t2_loop.trips) : Fin 2 → Nat :=
  let c0_i32_45 : BitVec 32 := 0#32
  let v32 : Index := Scalar.indexCast c0_i32_45
  let c0_i32_3 : BitVec 32 := 0#32
  let c1_i32_4 : BitVec 32 := 1#32
  let arg8 : BitVec 32 := Scf.iv c0_i32_3 c1_i32_4 k1_t2
  let c16_i32_43 : BitVec 32 := 16#32
  let v25 : BitVec 32 := Scalar.muli arg8 c16_i32_43
  let v33 : Index := Scalar.indexCast v25
  ![0, v33.toNat]
@[reducible] def k1_t3_loop : Scf.Loop 32 :=
  let c0_i32_7 : BitVec 32 := 0#32
  let c256_i32_8 : BitVec 32 := 256#32
  let v10 : BitVec 32 := Scalar.addi c0_i32_7 c256_i32_8
  let c1_i32_9 : BitVec 32 := 1#32
  ⟨c0_i32_7, v10, c1_i32_9⟩
def k1_off3 (k1_t3 : Fin k1_t3_loop.trips) : Fin 2 → Nat :=
  let c1_i32_45 : BitVec 32 := 1#32
  let v32 : Index := Scalar.indexCast c1_i32_45
  let c0_i32_7 : BitVec 32 := 0#32
  let c1_i32_9 : BitVec 32 := 1#32
  let arg8 : BitVec 32 := Scf.iv c0_i32_7 c1_i32_9 k1_t3
  let c16_i32_43 : BitVec 32 := 16#32
  let v25 : BitVec 32 := Scalar.muli arg8 c16_i32_43
  let v33 : Index := Scalar.indexCast v25
  ![1, v33.toNat]
@[reducible] def k1_t4_loop : Scf.Loop 32 :=
  let c0_i32_12 : BitVec 32 := 0#32
  let c256_i32_13 : BitVec 32 := 256#32
  let v12 : BitVec 32 := Scalar.addi c0_i32_12 c256_i32_13
  let c1_i32_14 : BitVec 32 := 1#32
  ⟨c0_i32_12, v12, c1_i32_14⟩
def k1_off4 (k1_t4 : Fin k1_t4_loop.trips) : Fin 2 → Nat :=
  let c2_i32_45 : BitVec 32 := 2#32
  let v32 : Index := Scalar.indexCast c2_i32_45
  let c0_i32_12 : BitVec 32 := 0#32
  let c1_i32_14 : BitVec 32 := 1#32
  let arg8 : BitVec 32 := Scf.iv c0_i32_12 c1_i32_14 k1_t4
  let c16_i32_43 : BitVec 32 := 16#32
  let v25 : BitVec 32 := Scalar.muli arg8 c16_i32_43
  let v33 : Index := Scalar.indexCast v25
  ![2, v33.toNat]
@[reducible] def k1_t5_loop : Scf.Loop 32 :=
  let c0_i32_17 : BitVec 32 := 0#32
  let c256_i32_18 : BitVec 32 := 256#32
  let v14 : BitVec 32 := Scalar.addi c0_i32_17 c256_i32_18
  let c1_i32_19 : BitVec 32 := 1#32
  ⟨c0_i32_17, v14, c1_i32_19⟩
def k1_off5 (k1_t5 : Fin k1_t5_loop.trips) : Fin 2 → Nat :=
  let c3_i32_44 : BitVec 32 := 3#32
  let v32 : Index := Scalar.indexCast c3_i32_44
  let c0_i32_17 : BitVec 32 := 0#32
  let c1_i32_19 : BitVec 32 := 1#32
  let arg8 : BitVec 32 := Scf.iv c0_i32_17 c1_i32_19 k1_t5
  let c16_i32_43 : BitVec 32 := 16#32
  let v25 : BitVec 32 := Scalar.muli arg8 c16_i32_43
  let v33 : Index := Scalar.indexCast v25
  ![3, v33.toNat]
@[reducible] def k1_t6_loop : Scf.Loop 32 :=
  let c0_i32_22 : BitVec 32 := 0#32
  let c256_i32_23 : BitVec 32 := 256#32
  let v16 : BitVec 32 := Scalar.addi c0_i32_22 c256_i32_23
  let c1_i32_24 : BitVec 32 := 1#32
  ⟨c0_i32_22, v16, c1_i32_24⟩
def k1_off6 (k1_t6 : Fin k1_t6_loop.trips) : Fin 2 → Nat :=
  let c4_i32_44 : BitVec 32 := 4#32
  let v32 : Index := Scalar.indexCast c4_i32_44
  let c0_i32_22 : BitVec 32 := 0#32
  let c1_i32_24 : BitVec 32 := 1#32
  let arg8 : BitVec 32 := Scf.iv c0_i32_22 c1_i32_24 k1_t6
  let c16_i32_43 : BitVec 32 := 16#32
  let v25 : BitVec 32 := Scalar.muli arg8 c16_i32_43
  let v33 : Index := Scalar.indexCast v25
  ![4, v33.toNat]
@[reducible] def k1_t7_loop : Scf.Loop 32 :=
  let c0_i32_27 : BitVec 32 := 0#32
  let c256_i32_28 : BitVec 32 := 256#32
  let v18 : BitVec 32 := Scalar.addi c0_i32_27 c256_i32_28
  let c1_i32_29 : BitVec 32 := 1#32
  ⟨c0_i32_27, v18, c1_i32_29⟩
def k1_off7 (k1_t7 : Fin k1_t7_loop.trips) : Fin 2 → Nat :=
  let c5_i32_44 : BitVec 32 := 5#32
  let v32 : Index := Scalar.indexCast c5_i32_44
  let c0_i32_27 : BitVec 32 := 0#32
  let c1_i32_29 : BitVec 32 := 1#32
  let arg8 : BitVec 32 := Scf.iv c0_i32_27 c1_i32_29 k1_t7
  let c16_i32_43 : BitVec 32 := 16#32
  let v25 : BitVec 32 := Scalar.muli arg8 c16_i32_43
  let v33 : Index := Scalar.indexCast v25
  ![5, v33.toNat]
@[reducible] def k1_t8_loop : Scf.Loop 32 :=
  let c0_i32_32 : BitVec 32 := 0#32
  let c256_i32_33 : BitVec 32 := 256#32
  let v20 : BitVec 32 := Scalar.addi c0_i32_32 c256_i32_33
  let c1_i32_34 : BitVec 32 := 1#32
  ⟨c0_i32_32, v20, c1_i32_34⟩
def k1_off8 (k1_t8 : Fin k1_t8_loop.trips) : Fin 2 → Nat :=
  let c6_i32_44 : BitVec 32 := 6#32
  let v32 : Index := Scalar.indexCast c6_i32_44
  let c0_i32_32 : BitVec 32 := 0#32
  let c1_i32_34 : BitVec 32 := 1#32
  let arg8 : BitVec 32 := Scf.iv c0_i32_32 c1_i32_34 k1_t8
  let c16_i32_43 : BitVec 32 := 16#32
  let v25 : BitVec 32 := Scalar.muli arg8 c16_i32_43
  let v33 : Index := Scalar.indexCast v25
  ![6, v33.toNat]
@[reducible] def k1_t9_loop : Scf.Loop 32 :=
  let c0_i32_37 : BitVec 32 := 0#32
  let c256_i32_38 : BitVec 32 := 256#32
  let v22 : BitVec 32 := Scalar.addi c0_i32_37 c256_i32_38
  let c1_i32_39 : BitVec 32 := 1#32
  ⟨c0_i32_37, v22, c1_i32_39⟩
def k1_off9 (k1_t9 : Fin k1_t9_loop.trips) : Fin 2 → Nat :=
  let c7_i32_44 : BitVec 32 := 7#32
  let v32 : Index := Scalar.indexCast c7_i32_44
  let c0_i32_37 : BitVec 32 := 0#32
  let c1_i32_39 : BitVec 32 := 1#32
  let arg8 : BitVec 32 := Scf.iv c0_i32_37 c1_i32_39 k1_t9
  let c16_i32_43 : BitVec 32 := 16#32
  let v25 : BitVec 32 := Scalar.muli arg8 c16_i32_43
  let v33 : Index := Scalar.indexCast v25
  ![7, v33.toNat]
def k1_off10 (i : grid1.Coords) (k1_t1 : Fin k1_t1_loop.trips) : Fin 2 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let c0_i32_0 : BitVec 32 := 0#32
  let c1_i32 : BitVec 32 := 1#32
  let arg6 : BitVec 32 := Scf.iv c0_i32_0 c1_i32 k1_t1
  let c8_i32 : BitVec 32 := 8#32
  let v6 : BitVec 32 := Scalar.muli arg6 c8_i32
  let v7 : BitVec 32 := Scalar.addi v3 v6
  let c12288_i32_41 : BitVec 32 := 12288#32
  let v24 : BitVec 32 := Scalar.subi v7 c12288_i32_41
  let c0_i32_43_r1 : BitVec 32 := 0#32
  ![v24.toNat, 0]
abbrev grid2 : Pipeline.Grid := ⟨1, ![16], ![false]⟩

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c48_i32 : BitVec 32 := 48#32
  let v0 : BitVec 32 := Scalar.addi arg0 c48_i32
  let c0_i32 : BitVec 32 := 0#32
  let c0_i32_0 : BitVec 32 := 0#32
  ![v0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S_ : Shape := ⟨0, ![]⟩
abbrev S1 : Shape := ⟨1, ![1]⟩
abbrev S2 : Shape := ⟨1, ![2]⟩
abbrev S1x1 : Shape := ⟨2, ![1, 1]⟩

abbrev nBuf : Space → Nat
  | .hbm => 528
  | .vmem => 0
  | .smem => 0
  | _ => 0

abbrev hbmTy0_0 (i : Nat) : BufTy := match i % 128 with
  | 0 => ⟨S16384x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S16384x4096, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S_, .f32⟩
  | 121 => ⟨S_, .f32⟩
  | 122 => ⟨S_, .f32⟩
  | 123 => ⟨S_, .f32⟩
  | 124 => ⟨S1x1, .f32⟩
  | 125 => ⟨S1x1, .f32⟩
  | 126 => ⟨S1, .i32⟩
  | 127 => ⟨S_, .i32⟩
  | _ => ⟨S16384x4096, .f32⟩

abbrev hbmTy0_2 (i : Nat) : BufTy := match i % 128 with
  | 0 => ⟨S1, .i32⟩
  | 1 => ⟨S_, .i32⟩
  | 2 => ⟨S16384x4096, .i64⟩
  | 3 => ⟨S16384x4096, .i64⟩
  | 4 => ⟨S_, .i64⟩
  | 5 => ⟨S16384x4096, .i64⟩
  | 6 => ⟨S16384x4096, .i64⟩
  | 7 => ⟨S_, .i64⟩
  | 8 => ⟨S16384x4096, .i64⟩
  | 9 => ⟨S16384x4096, .i64⟩
  | 10 => ⟨S16384x4096, .i64⟩
  | 11 => ⟨S_, .i64⟩
  | 12 => ⟨S16384x4096, .i64⟩
  | 13 => ⟨S16384x4096, .i64⟩
  | 14 => ⟨S16384x4096, .i32⟩
  | 15 => ⟨S16384x4096, .i32⟩
  | 16 => ⟨S_, .i32⟩
  | 17 => ⟨S_, .i32⟩
  | 18 => ⟨S_, .i32⟩
  | 19 => ⟨S16384x4096, .i32⟩
  | 20 => ⟨S16384x4096, .i32⟩
  | 21 => ⟨S16384x4096, .i32⟩
  | 22 => ⟨S16384x4096, .i32⟩
  | 23 => ⟨S16384x4096, .i32⟩
  | 24 => ⟨S_, .i32⟩
  | 25 => ⟨S16384x4096, .i32⟩
  | 26 => ⟨S16384x4096, .i32⟩
  | 27 => ⟨S_, .i32⟩
  | 28 => ⟨S16384x4096, .i32⟩
  | 29 => ⟨S16384x4096, .i32⟩
  | 30 => ⟨S16384x4096, .i32⟩
  | 31 => ⟨S16384x4096, .i32⟩
  | 32 => ⟨S16384x4096, .i32⟩
  | 33 => ⟨S_, .i32⟩
  | 34 => ⟨S16384x4096, .i32⟩
  | 35 => ⟨S16384x4096, .i32⟩
  | 36 => ⟨S_, .i32⟩
  | 37 => ⟨S16384x4096, .i32⟩
  | 38 => ⟨S16384x4096, .i32⟩
  | 39 => ⟨S16384x4096, .i32⟩
  | 40 => ⟨S16384x4096, .i32⟩
  | 41 => ⟨S16384x4096, .i32⟩
  | 42 => ⟨S_, .i32⟩
  | 43 => ⟨S16384x4096, .i32⟩
  | 44 => ⟨S16384x4096, .i32⟩
  | 45 => ⟨S_, .i32⟩
  | 46 => ⟨S16384x4096, .i32⟩
  | 47 => ⟨S16384x4096, .i32⟩
  | 48 => ⟨S16384x4096, .i32⟩
  | 49 => ⟨S16384x4096, .i32⟩
  | 50 => ⟨S16384x4096, .i32⟩
  | 51 => ⟨S_, .i32⟩
  | 52 => ⟨S16384x4096, .i32⟩
  | 53 => ⟨S16384x4096, .i32⟩
  | 54 => ⟨S_, .i32⟩
  | 55 => ⟨S16384x4096, .i32⟩
  | 56 => ⟨S16384x4096, .i32⟩
  | 57 => ⟨S16384x4096, .i32⟩
  | 58 => ⟨S16384x4096, .i32⟩
  | 59 => ⟨S16384x4096, .i32⟩
  | 60 => ⟨S16384x4096, .i32⟩
  | 61 => ⟨S16384x4096, .i32⟩
  | 62 => ⟨S16384x4096, .i32⟩
  | 63 => ⟨S_, .i32⟩
  | 64 => ⟨S16384x4096, .i32⟩
  | 65 => ⟨S16384x4096, .i32⟩
  | 66 => ⟨S16384x4096, .i32⟩
  | 67 => ⟨S_, .i32⟩
  | 68 => ⟨S16384x4096, .i32⟩
  | 69 => ⟨S16384x4096, .i32⟩
  | 70 => ⟨S_, .i32⟩
  | 71 => ⟨S16384x4096, .i32⟩
  | 72 => ⟨S16384x4096, .i32⟩
  | 73 => ⟨S16384x4096, .i32⟩
  | 74 => ⟨S16384x4096, .i32⟩
  | 75 => ⟨S16384x4096, .i32⟩
  | 76 => ⟨S_, .i32⟩
  | 77 => ⟨S16384x4096, .i32⟩
  | 78 => ⟨S16384x4096, .i32⟩
  | 79 => ⟨S_, .i32⟩
  | 80 => ⟨S16384x4096, .i32⟩
  | 81 => ⟨S16384x4096, .i32⟩
  | 82 => ⟨S16384x4096, .i32⟩
  | 83 => ⟨S16384x4096, .i32⟩
  | 84 => ⟨S16384x4096, .i32⟩
  | 85 => ⟨S_, .i32⟩
  | 86 => ⟨S16384x4096, .i32⟩
  | 87 => ⟨S16384x4096, .i32⟩
  | 88 => ⟨S_, .i32⟩
  | 89 => ⟨S16384x4096, .i32⟩
  | 90 => ⟨S16384x4096, .i32⟩
  | 91 => ⟨S16384x4096, .i32⟩
  | 92 => ⟨S16384x4096, .i32⟩
  | 93 => ⟨S16384x4096, .i32⟩
  | 94 => ⟨S_, .i32⟩
  | 95 => ⟨S16384x4096, .i32⟩
  | 96 => ⟨S16384x4096, .i32⟩
  | 97 => ⟨S_, .i32⟩
  | 98 => ⟨S16384x4096, .i32⟩
  | 99 => ⟨S16384x4096, .i32⟩
  | 100 => ⟨S16384x4096, .i32⟩
  | 101 => ⟨S16384x4096, .i32⟩
  | 102 => ⟨S16384x4096, .i32⟩
  | 103 => ⟨S16384x4096, .i32⟩
  | 104 => ⟨S16384x4096, .i32⟩
  | 105 => ⟨S16384x4096, .i32⟩
  | 106 => ⟨S_, .i32⟩
  | 107 => ⟨S16384x4096, .i32⟩
  | 108 => ⟨S16384x4096, .i32⟩
  | 109 => ⟨S16384x4096, .i32⟩
  | 110 => ⟨S_, .i32⟩
  | 111 => ⟨S16384x4096, .i32⟩
  | 112 => ⟨S16384x4096, .i32⟩
  | 113 => ⟨S_, .i32⟩
  | 114 => ⟨S16384x4096, .i32⟩
  | 115 => ⟨S16384x4096, .i32⟩
  | 116 => ⟨S16384x4096, .i32⟩
  | 117 => ⟨S16384x4096, .i32⟩
  | 118 => ⟨S16384x4096, .i32⟩
  | 119 => ⟨S_, .i32⟩
  | 120 => ⟨S16384x4096, .i32⟩
  | 121 => ⟨S16384x4096, .i32⟩
  | 122 => ⟨S_, .i32⟩
  | 123 => ⟨S16384x4096, .i32⟩
  | 124 => ⟨S16384x4096, .i32⟩
  | 125 => ⟨S16384x4096, .i32⟩
  | 126 => ⟨S16384x4096, .i32⟩
  | 127 => ⟨S16384x4096, .i32⟩
  | _ => ⟨S16384x4096, .f32⟩

abbrev hbmTy0_3 (i : Nat) : BufTy := match i % 128 with
  | 0 => ⟨S_, .i32⟩
  | 1 => ⟨S16384x4096, .i32⟩
  | 2 => ⟨S16384x4096, .i32⟩
  | 3 => ⟨S_, .i32⟩
  | 4 => ⟨S16384x4096, .i32⟩
  | 5 => ⟨S16384x4096, .i32⟩
  | 6 => ⟨S16384x4096, .i32⟩
  | 7 => ⟨S16384x4096, .i32⟩
  | 8 => ⟨S16384x4096, .i32⟩
  | 9 => ⟨S_, .i32⟩
  | 10 => ⟨S16384x4096, .i32⟩
  | 11 => ⟨S16384x4096, .i32⟩
  | 12 => ⟨S_, .i32⟩
  | 13 => ⟨S16384x4096, .i32⟩
  | 14 => ⟨S16384x4096, .i32⟩
  | 15 => ⟨S16384x4096, .i32⟩
  | 16 => ⟨S16384x4096, .i32⟩
  | 17 => ⟨S16384x4096, .i32⟩
  | 18 => ⟨S16384x4096, .i32⟩
  | 19 => ⟨S16384x4096, .i32⟩
  | 20 => ⟨S16384x4096, .i32⟩
  | 21 => ⟨S_, .i32⟩
  | 22 => ⟨S16384x4096, .i32⟩
  | 23 => ⟨S16384x4096, .i32⟩
  | 24 => ⟨S16384x4096, .i32⟩
  | 25 => ⟨S_, .i32⟩
  | 26 => ⟨S16384x4096, .i32⟩
  | 27 => ⟨S16384x4096, .i32⟩
  | 28 => ⟨S_, .i32⟩
  | 29 => ⟨S16384x4096, .i32⟩
  | 30 => ⟨S16384x4096, .i32⟩
  | 31 => ⟨S16384x4096, .i32⟩
  | 32 => ⟨S16384x4096, .i32⟩
  | 33 => ⟨S16384x4096, .i32⟩
  | 34 => ⟨S_, .i32⟩
  | 35 => ⟨S16384x4096, .i32⟩
  | 36 => ⟨S16384x4096, .i32⟩
  | 37 => ⟨S_, .i32⟩
  | 38 => ⟨S16384x4096, .i32⟩
  | 39 => ⟨S16384x4096, .i32⟩
  | 40 => ⟨S16384x4096, .i32⟩
  | 41 => ⟨S16384x4096, .i32⟩
  | 42 => ⟨S16384x4096, .i32⟩
  | 43 => ⟨S_, .i32⟩
  | 44 => ⟨S16384x4096, .i32⟩
  | 45 => ⟨S16384x4096, .i32⟩
  | 46 => ⟨S_, .i32⟩
  | 47 => ⟨S16384x4096, .i32⟩
  | 48 => ⟨S16384x4096, .i32⟩
  | 49 => ⟨S16384x4096, .i32⟩
  | 50 => ⟨S16384x4096, .i32⟩
  | 51 => ⟨S16384x4096, .i32⟩
  | 52 => ⟨S_, .i32⟩
  | 53 => ⟨S16384x4096, .i32⟩
  | 54 => ⟨S16384x4096, .i32⟩
  | 55 => ⟨S_, .i32⟩
  | 56 => ⟨S16384x4096, .i32⟩
  | 57 => ⟨S16384x4096, .i32⟩
  | 58 => ⟨S16384x4096, .i32⟩
  | 59 => ⟨S16384x4096, .i32⟩
  | 60 => ⟨S16384x4096, .i32⟩
  | 61 => ⟨S16384x4096, .i32⟩
  | 62 => ⟨S16384x4096, .i32⟩
  | 63 => ⟨S16384x4096, .i32⟩
  | 64 => ⟨S_, .i32⟩
  | 65 => ⟨S16384x4096, .i32⟩
  | 66 => ⟨S16384x4096, .i32⟩
  | 67 => ⟨S16384x4096, .i32⟩
  | 68 => ⟨S_, .i32⟩
  | 69 => ⟨S16384x4096, .i32⟩
  | 70 => ⟨S16384x4096, .i32⟩
  | 71 => ⟨S_, .i32⟩
  | 72 => ⟨S16384x4096, .i32⟩
  | 73 => ⟨S16384x4096, .i32⟩
  | 74 => ⟨S16384x4096, .i32⟩
  | 75 => ⟨S16384x4096, .i32⟩
  | 76 => ⟨S16384x4096, .i32⟩
  | 77 => ⟨S_, .i32⟩
  | 78 => ⟨S16384x4096, .i32⟩
  | 79 => ⟨S16384x4096, .i32⟩
  | 80 => ⟨S_, .i32⟩
  | 81 => ⟨S16384x4096, .i32⟩
  | 82 => ⟨S16384x4096, .i32⟩
  | 83 => ⟨S16384x4096, .i32⟩
  | 84 => ⟨S16384x4096, .i32⟩
  | 85 => ⟨S16384x4096, .i32⟩
  | 86 => ⟨S_, .i32⟩
  | 87 => ⟨S16384x4096, .i32⟩
  | 88 => ⟨S16384x4096, .i32⟩
  | 89 => ⟨S_, .i32⟩
  | 90 => ⟨S16384x4096, .i32⟩
  | 91 => ⟨S16384x4096, .i32⟩
  | 92 => ⟨S16384x4096, .i32⟩
  | 93 => ⟨S16384x4096, .i32⟩
  | 94 => ⟨S16384x4096, .i32⟩
  | 95 => ⟨S_, .i32⟩
  | 96 => ⟨S16384x4096, .i32⟩
  | 97 => ⟨S16384x4096, .i32⟩
  | 98 => ⟨S_, .i32⟩
  | 99 => ⟨S16384x4096, .i32⟩
  | 100 => ⟨S16384x4096, .i32⟩
  | 101 => ⟨S16384x4096, .i32⟩
  | 102 => ⟨S16384x4096, .i32⟩
  | 103 => ⟨S16384x4096, .i32⟩
  | 104 => ⟨S16384x4096, .i32⟩
  | 105 => ⟨S16384x4096, .i32⟩
  | 106 => ⟨S16384x4096, .i32⟩
  | 107 => ⟨S_, .i32⟩
  | 108 => ⟨S16384x4096, .i32⟩
  | 109 => ⟨S16384x4096, .i32⟩
  | 110 => ⟨S16384x4096, .i32⟩
  | 111 => ⟨S_, .i32⟩
  | 112 => ⟨S16384x4096, .i32⟩
  | 113 => ⟨S16384x4096, .i32⟩
  | 114 => ⟨S_, .i32⟩
  | 115 => ⟨S16384x4096, .i32⟩
  | 116 => ⟨S16384x4096, .i32⟩
  | 117 => ⟨S16384x4096, .f32⟩
  | 118 => ⟨S_, .f32⟩
  | 119 => ⟨S16384x4096, .f32⟩
  | 120 => ⟨S16384x4096, .f32⟩
  | 121 => ⟨S1x1, .f32⟩
  | 122 => ⟨S16384x4096, .f32⟩
  | 123 => ⟨S16384x4096, .f32⟩
  | 124 => ⟨S16384x4096, .f32⟩
  | 125 => ⟨S16384x4096, .f32⟩
  | 126 => ⟨S16384x4096, .f32⟩
  | 127 => ⟨S16384x4096, .f32⟩
  | _ => ⟨S16384x4096, .f32⟩

abbrev hbmTy0_4 (i : Nat) : BufTy := match i % 128 with
  | 0 => ⟨S_, .f32⟩
  | 1 => ⟨S16384x4096, .f32⟩
  | 2 => ⟨S16384x4096, .f32⟩
  | 3 => ⟨S_, .f32⟩
  | 4 => ⟨S16384x4096, .f32⟩
  | 5 => ⟨S16384x4096, .f32⟩
  | 6 => ⟨S16384x4096, .i1⟩
  | 7 => ⟨S_, .f32⟩
  | 8 => ⟨S16384x4096, .f32⟩
  | 9 => ⟨S16384x4096, .f32⟩
  | 10 => ⟨S16384x4096, .f32⟩
  | 11 => ⟨S_, .f32⟩
  | 12 => ⟨S16384x4096, .f32⟩
  | 13 => ⟨S16384x4096, .f32⟩
  | 14 => ⟨S16384x4096, .f32⟩
  | 15 => ⟨S16384x4096, .f32⟩
  | _ => ⟨S16384x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_cst : Ref sig .tc := ⟨.hbm, 248, rfl⟩
abbrev main_cst_3 : Ref sig .tc := ⟨.hbm, 249, rfl⟩
abbrev main_call1_v0 : Ref sig .tc := ⟨.hbm, 250, rfl⟩
abbrev main_call1_v1 : Ref sig .tc := ⟨.hbm, 251, rfl⟩
abbrev main_call1_v2 : Ref sig .tc := ⟨.hbm, 252, rfl⟩
abbrev main_call1_v3 : Ref sig .tc := ⟨.hbm, 253, rfl⟩
abbrev main_call1_v4 : Ref sig .tc := ⟨.hbm, 254, rfl⟩
abbrev main_call1_v5 : Ref sig .tc := ⟨.hbm, 255, rfl⟩
abbrev main_call1_v6 : Ref sig .tc := ⟨.hbm, 256, rfl⟩
abbrev main_call1_v7 : Ref sig .tc := ⟨.hbm, 257, rfl⟩
abbrev main_call1_v8 : Ref sig .tc := ⟨.hbm, 258, rfl⟩
abbrev main_call1_v9 : Ref sig .tc := ⟨.hbm, 259, rfl⟩
abbrev main_call1_c : Ref sig .tc := ⟨.hbm, 260, rfl⟩
abbrev main_call1_v10 : Ref sig .tc := ⟨.hbm, 261, rfl⟩
abbrev main_call1_v11 : Ref sig .tc := ⟨.hbm, 262, rfl⟩
abbrev main_call1_c_0 : Ref sig .tc := ⟨.hbm, 263, rfl⟩
abbrev main_call1_v12 : Ref sig .tc := ⟨.hbm, 264, rfl⟩
abbrev main_call1_v13 : Ref sig .tc := ⟨.hbm, 265, rfl⟩
abbrev main_call1_v14 : Ref sig .tc := ⟨.hbm, 266, rfl⟩
abbrev main_call1_c_1 : Ref sig .tc := ⟨.hbm, 267, rfl⟩
abbrev main_call1_v15 : Ref sig .tc := ⟨.hbm, 268, rfl⟩
abbrev main_call1_v16 : Ref sig .tc := ⟨.hbm, 269, rfl⟩
abbrev main_call1_v17 : Ref sig .tc := ⟨.hbm, 270, rfl⟩
abbrev main_call1_v18 : Ref sig .tc := ⟨.hbm, 271, rfl⟩
abbrev main_call1_call0_v0 : Ref sig .tc := ⟨.hbm, 272, rfl⟩
abbrev main_call1_call0_c : Ref sig .tc := ⟨.hbm, 273, rfl⟩
abbrev main_call1_call0_v1 : Ref sig .tc := ⟨.hbm, 274, rfl⟩
abbrev main_call1_call0_v2 : Ref sig .tc := ⟨.hbm, 275, rfl⟩
abbrev main_call1_call0_v3 : Ref sig .tc := ⟨.hbm, 276, rfl⟩
abbrev main_call1_call0_v4 : Ref sig .tc := ⟨.hbm, 277, rfl⟩
abbrev main_call1_call0_v5 : Ref sig .tc := ⟨.hbm, 278, rfl⟩
abbrev main_call1_call0_v6 : Ref sig .tc := ⟨.hbm, 279, rfl⟩
abbrev main_call1_call0_c_0 : Ref sig .tc := ⟨.hbm, 280, rfl⟩
abbrev main_call1_call0_v7 : Ref sig .tc := ⟨.hbm, 281, rfl⟩
abbrev main_call1_call0_v8 : Ref sig .tc := ⟨.hbm, 282, rfl⟩
abbrev main_call1_call0_c_1 : Ref sig .tc := ⟨.hbm, 283, rfl⟩
abbrev main_call1_call0_v9 : Ref sig .tc := ⟨.hbm, 284, rfl⟩
abbrev main_call1_call0_v10 : Ref sig .tc := ⟨.hbm, 285, rfl⟩
abbrev main_call1_call0_v11 : Ref sig .tc := ⟨.hbm, 286, rfl⟩
abbrev main_call1_call0_v12 : Ref sig .tc := ⟨.hbm, 287, rfl⟩
abbrev main_call1_call0_v13 : Ref sig .tc := ⟨.hbm, 288, rfl⟩
abbrev main_call1_call0_c_2 : Ref sig .tc := ⟨.hbm, 289, rfl⟩
abbrev main_call1_call0_v14 : Ref sig .tc := ⟨.hbm, 290, rfl⟩
abbrev main_call1_call0_v15 : Ref sig .tc := ⟨.hbm, 291, rfl⟩
abbrev main_call1_call0_c_3 : Ref sig .tc := ⟨.hbm, 292, rfl⟩
abbrev main_call1_call0_v16 : Ref sig .tc := ⟨.hbm, 293, rfl⟩
abbrev main_call1_call0_v17 : Ref sig .tc := ⟨.hbm, 294, rfl⟩
abbrev main_call1_call0_v18 : Ref sig .tc := ⟨.hbm, 295, rfl⟩
abbrev main_call1_call0_v19 : Ref sig .tc := ⟨.hbm, 296, rfl⟩
abbrev main_call1_call0_v20 : Ref sig .tc := ⟨.hbm, 297, rfl⟩
abbrev main_call1_call0_c_4 : Ref sig .tc := ⟨.hbm, 298, rfl⟩
abbrev main_call1_call0_v21 : Ref sig .tc := ⟨.hbm, 299, rfl⟩
abbrev main_call1_call0_v22 : Ref sig .tc := ⟨.hbm, 300, rfl⟩
abbrev main_call1_call0_c_5 : Ref sig .tc := ⟨.hbm, 301, rfl⟩
abbrev main_call1_call0_v23 : Ref sig .tc := ⟨.hbm, 302, rfl⟩
abbrev main_call1_call0_v24 : Ref sig .tc := ⟨.hbm, 303, rfl⟩
abbrev main_call1_call0_v25 : Ref sig .tc := ⟨.hbm, 304, rfl⟩
abbrev main_call1_call0_v26 : Ref sig .tc := ⟨.hbm, 305, rfl⟩
abbrev main_call1_call0_v27 : Ref sig .tc := ⟨.hbm, 306, rfl⟩
abbrev main_call1_call0_c_6 : Ref sig .tc := ⟨.hbm, 307, rfl⟩
abbrev main_call1_call0_v28 : Ref sig .tc := ⟨.hbm, 308, rfl⟩
abbrev main_call1_call0_v29 : Ref sig .tc := ⟨.hbm, 309, rfl⟩
abbrev main_call1_call0_c_7 : Ref sig .tc := ⟨.hbm, 310, rfl⟩
abbrev main_call1_call0_v30 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_call0_v33 : Ref sig .tc := ⟨.hbm, 314, rfl⟩
abbrev main_call1_call0_v34 : Ref sig .tc := ⟨.hbm, 315, rfl⟩
abbrev main_call1_call0_v35 : Ref sig .tc := ⟨.hbm, 316, rfl⟩
abbrev main_call1_call0_v36 : Ref sig .tc := ⟨.hbm, 317, rfl⟩
abbrev main_call1_call0_v37 : Ref sig .tc := ⟨.hbm, 318, rfl⟩
abbrev main_call1_call0_c_8 : Ref sig .tc := ⟨.hbm, 319, rfl⟩
abbrev main_call1_call0_v38 : Ref sig .tc := ⟨.hbm, 320, rfl⟩
abbrev main_call1_call0_v39 : Ref sig .tc := ⟨.hbm, 321, rfl⟩
abbrev main_call1_call0_v40 : Ref sig .tc := ⟨.hbm, 322, rfl⟩
abbrev main_call1_call0_c_9 : Ref sig .tc := ⟨.hbm, 323, rfl⟩
abbrev main_call1_call0_v41 : Ref sig .tc := ⟨.hbm, 324, rfl⟩
abbrev main_call1_call0_v42 : Ref sig .tc := ⟨.hbm, 325, rfl⟩
abbrev main_call1_call0_c_10 : Ref sig .tc := ⟨.hbm, 326, rfl⟩
abbrev main_call1_call0_v43 : Ref sig .tc := ⟨.hbm, 327, rfl⟩
abbrev main_call1_call0_v44 : Ref sig .tc := ⟨.hbm, 328, rfl⟩
abbrev main_call1_call0_v45 : Ref sig .tc := ⟨.hbm, 329, rfl⟩
abbrev main_call1_call0_v46 : Ref sig .tc := ⟨.hbm, 330, rfl⟩
abbrev main_call1_call0_v47 : Ref sig .tc := ⟨.hbm, 331, rfl⟩
abbrev main_call1_call0_c_11 : Ref sig .tc := ⟨.hbm, 332, rfl⟩
abbrev main_call1_call0_v48 : Ref sig .tc := ⟨.hbm, 333, rfl⟩
abbrev main_call1_call0_v49 : Ref sig .tc := ⟨.hbm, 334, rfl⟩
abbrev main_call1_call0_c_12 : Ref sig .tc := ⟨.hbm, 335, rfl⟩
abbrev main_call1_call0_v50 : Ref sig .tc := ⟨.hbm, 336, rfl⟩
abbrev main_call1_call0_v51 : Ref sig .tc := ⟨.hbm, 337, rfl⟩
abbrev main_call1_call0_v52 : Ref sig .tc := ⟨.hbm, 338, rfl⟩
abbrev main_call1_call0_v53 : Ref sig .tc := ⟨.hbm, 339, rfl⟩
abbrev main_call1_call0_v54 : Ref sig .tc := ⟨.hbm, 340, rfl⟩
abbrev main_call1_call0_c_13 : Ref sig .tc := ⟨.hbm, 341, rfl⟩
abbrev main_call1_call0_v55 : Ref sig .tc := ⟨.hbm, 342, rfl⟩
abbrev main_call1_call0_v56 : Ref sig .tc := ⟨.hbm, 343, rfl⟩
abbrev main_call1_call0_c_14 : Ref sig .tc := ⟨.hbm, 344, rfl⟩
abbrev main_call1_call0_v57 : Ref sig .tc := ⟨.hbm, 345, rfl⟩
abbrev main_call1_call0_v58 : Ref sig .tc := ⟨.hbm, 346, rfl⟩
abbrev main_call1_call0_v59 : Ref sig .tc := ⟨.hbm, 347, rfl⟩
abbrev main_call1_call0_v60 : Ref sig .tc := ⟨.hbm, 348, rfl⟩
abbrev main_call1_call0_v61 : Ref sig .tc := ⟨.hbm, 349, rfl⟩
abbrev main_call1_call0_c_15 : Ref sig .tc := ⟨.hbm, 350, rfl⟩
abbrev main_call1_call0_v62 : Ref sig .tc := ⟨.hbm, 351, rfl⟩
abbrev main_call1_call0_v63 : Ref sig .tc := ⟨.hbm, 352, rfl⟩
abbrev main_call1_call0_c_16 : Ref sig .tc := ⟨.hbm, 353, rfl⟩
abbrev main_call1_call0_v64 : Ref sig .tc := ⟨.hbm, 354, rfl⟩
abbrev main_call1_call0_v65 : Ref sig .tc := ⟨.hbm, 355, rfl⟩
abbrev main_call1_call0_v66 : Ref sig .tc := ⟨.hbm, 356, rfl⟩
abbrev main_call1_call0_v67 : Ref sig .tc := ⟨.hbm, 357, rfl⟩
abbrev main_call1_call0_v68 : Ref sig .tc := ⟨.hbm, 358, rfl⟩
abbrev main_call1_call0_v69 : Ref sig .tc := ⟨.hbm, 359, rfl⟩
abbrev main_call1_call0_v70 : Ref sig .tc := ⟨.hbm, 360, rfl⟩
abbrev main_call1_call0_v71 : Ref sig .tc := ⟨.hbm, 361, rfl⟩
abbrev main_call1_call0_c_17 : Ref sig .tc := ⟨.hbm, 362, rfl⟩
abbrev main_call1_call0_v72 : Ref sig .tc := ⟨.hbm, 363, rfl⟩
abbrev main_call1_call0_v73 : Ref sig .tc := ⟨.hbm, 364, rfl⟩
abbrev main_call1_call0_v74 : Ref sig .tc := ⟨.hbm, 365, rfl⟩
abbrev main_call1_call0_c_18 : Ref sig .tc := ⟨.hbm, 366, rfl⟩
abbrev main_call1_call0_v75 : Ref sig .tc := ⟨.hbm, 367, rfl⟩
abbrev main_call1_call0_v76 : Ref sig .tc := ⟨.hbm, 368, rfl⟩
abbrev main_call1_call0_c_19 : Ref sig .tc := ⟨.hbm, 369, rfl⟩
abbrev main_call1_call0_v77 : Ref sig .tc := ⟨.hbm, 370, rfl⟩
abbrev main_call1_call0_v78 : Ref sig .tc := ⟨.hbm, 371, rfl⟩
abbrev main_call1_call0_v79 : Ref sig .tc := ⟨.hbm, 372, rfl⟩
abbrev main_call1_call0_v80 : Ref sig .tc := ⟨.hbm, 373, rfl⟩
abbrev main_call1_call0_v81 : Ref sig .tc := ⟨.hbm, 374, rfl⟩
abbrev main_call1_call0_c_20 : Ref sig .tc := ⟨.hbm, 375, rfl⟩
abbrev main_call1_call0_v82 : Ref sig .tc := ⟨.hbm, 376, rfl⟩
abbrev main_call1_call0_v83 : Ref sig .tc := ⟨.hbm, 377, rfl⟩
abbrev main_call1_call0_c_21 : Ref sig .tc := ⟨.hbm, 378, rfl⟩
abbrev main_call1_call0_v84 : Ref sig .tc := ⟨.hbm, 379, rfl⟩
abbrev main_call1_call0_v85 : Ref sig .tc := ⟨.hbm, 380, rfl⟩
abbrev main_call1_call0_v86 : Ref sig .tc := ⟨.hbm, 381, rfl⟩
abbrev main_call1_call0_v87 : Ref sig .tc := ⟨.hbm, 382, rfl⟩
abbrev main_call1_call0_v88 : Ref sig .tc := ⟨.hbm, 383, rfl⟩
abbrev main_call1_call0_c_22 : Ref sig .tc := ⟨.hbm, 384, rfl⟩
abbrev main_call1_call0_v89 : Ref sig .tc := ⟨.hbm, 385, rfl⟩
abbrev main_call1_call0_v90 : Ref sig .tc := ⟨.hbm, 386, rfl⟩
abbrev main_call1_call0_c_23 : Ref sig .tc := ⟨.hbm, 387, rfl⟩
abbrev main_call1_call0_v91 : Ref sig .tc := ⟨.hbm, 388, rfl⟩
abbrev main_call1_call0_v92 : Ref sig .tc := ⟨.hbm, 389, rfl⟩
abbrev main_call1_call0_v93 : Ref sig .tc := ⟨.hbm, 390, rfl⟩
abbrev main_call1_call0_v94 : Ref sig .tc := ⟨.hbm, 391, rfl⟩
abbrev main_call1_call0_v95 : Ref sig .tc := ⟨.hbm, 392, rfl⟩
abbrev main_call1_call0_c_24 : Ref sig .tc := ⟨.hbm, 393, rfl⟩
abbrev main_call1_call0_v96 : Ref sig .tc := ⟨.hbm, 394, rfl⟩
abbrev main_call1_call0_v97 : Ref sig .tc := ⟨.hbm, 395, rfl⟩
abbrev main_call1_call0_c_25 : Ref sig .tc := ⟨.hbm, 396, rfl⟩
abbrev main_call1_call0_v98 : Ref sig .tc := ⟨.hbm, 397, rfl⟩
abbrev main_call1_call0_v99 : Ref sig .tc := ⟨.hbm, 398, rfl⟩
abbrev main_call1_call0_v100 : Ref sig .tc := ⟨.hbm, 399, rfl⟩
abbrev main_call1_call0_v101 : Ref sig .tc := ⟨.hbm, 400, rfl⟩
abbrev main_call1_call0_v102 : Ref sig .tc := ⟨.hbm, 401, rfl⟩
abbrev main_call1_call0_v103 : Ref sig .tc := ⟨.hbm, 402, rfl⟩
abbrev main_call1_call0_v104 : Ref sig .tc := ⟨.hbm, 403, rfl⟩
abbrev main_call1_call0_v105 : Ref sig .tc := ⟨.hbm, 404, rfl⟩
abbrev main_call1_call0_c_26 : Ref sig .tc := ⟨.hbm, 405, rfl⟩
abbrev main_call1_call0_v106 : Ref sig .tc := ⟨.hbm, 406, rfl⟩
abbrev main_call1_call0_v107 : Ref sig .tc := ⟨.hbm, 407, rfl⟩
abbrev main_call1_call0_v108 : Ref sig .tc := ⟨.hbm, 408, rfl⟩
abbrev main_call1_call0_c_27 : Ref sig .tc := ⟨.hbm, 409, rfl⟩
abbrev main_call1_call0_v109 : Ref sig .tc := ⟨.hbm, 410, rfl⟩
abbrev main_call1_call0_v110 : Ref sig .tc := ⟨.hbm, 411, rfl⟩
abbrev main_call1_call0_c_28 : Ref sig .tc := ⟨.hbm, 412, rfl⟩
abbrev main_call1_call0_v111 : Ref sig .tc := ⟨.hbm, 413, rfl⟩
abbrev main_call1_call0_v112 : Ref sig .tc := ⟨.hbm, 414, rfl⟩
abbrev main_call1_call0_v113 : Ref sig .tc := ⟨.hbm, 415, rfl⟩
abbrev main_call1_call0_v114 : Ref sig .tc := ⟨.hbm, 416, rfl⟩
abbrev main_call1_call0_v115 : Ref sig .tc := ⟨.hbm, 417, rfl⟩
abbrev main_call1_call0_c_29 : Ref sig .tc := ⟨.hbm, 418, rfl⟩
abbrev main_call1_call0_v116 : Ref sig .tc := ⟨.hbm, 419, rfl⟩
abbrev main_call1_call0_v117 : Ref sig .tc := ⟨.hbm, 420, rfl⟩
abbrev main_call1_call0_c_30 : Ref sig .tc := ⟨.hbm, 421, rfl⟩
abbrev main_call1_call0_v118 : Ref sig .tc := ⟨.hbm, 422, rfl⟩
abbrev main_call1_call0_v119 : Ref sig .tc := ⟨.hbm, 423, rfl⟩
abbrev main_call1_call0_v120 : Ref sig .tc := ⟨.hbm, 424, rfl⟩
abbrev main_call1_call0_v121 : Ref sig .tc := ⟨.hbm, 425, rfl⟩
abbrev main_call1_call0_v122 : Ref sig .tc := ⟨.hbm, 426, rfl⟩
abbrev main_call1_call0_c_31 : Ref sig .tc := ⟨.hbm, 427, rfl⟩
abbrev main_call1_call0_v123 : Ref sig .tc := ⟨.hbm, 428, rfl⟩
abbrev main_call1_call0_v124 : Ref sig .tc := ⟨.hbm, 429, rfl⟩
abbrev main_call1_call0_c_32 : Ref sig .tc := ⟨.hbm, 430, rfl⟩
abbrev main_call1_call0_v125 : Ref sig .tc := ⟨.hbm, 431, rfl⟩
abbrev main_call1_call0_v126 : Ref sig .tc := ⟨.hbm, 432, rfl⟩
abbrev main_call1_call0_v127 : Ref sig .tc := ⟨.hbm, 433, rfl⟩
abbrev main_call1_call0_v128 : Ref sig .tc := ⟨.hbm, 434, rfl⟩
abbrev main_call1_call0_v129 : Ref sig .tc := ⟨.hbm, 435, rfl⟩
abbrev main_call1_call0_c_33 : Ref sig .tc := ⟨.hbm, 436, rfl⟩
abbrev main_call1_call0_v130 : Ref sig .tc := ⟨.hbm, 437, rfl⟩
abbrev main_call1_call0_v131 : Ref sig .tc := ⟨.hbm, 438, rfl⟩
abbrev main_call1_call0_c_34 : Ref sig .tc := ⟨.hbm, 439, rfl⟩
abbrev main_call1_call0_v132 : Ref sig .tc := ⟨.hbm, 440, rfl⟩
abbrev main_call1_call0_v133 : Ref sig .tc := ⟨.hbm, 441, rfl⟩
abbrev main_call1_call0_v134 : Ref sig .tc := ⟨.hbm, 442, rfl⟩
abbrev main_call1_call0_v135 : Ref sig .tc := ⟨.hbm, 443, rfl⟩
abbrev main_call1_call0_v136 : Ref sig .tc := ⟨.hbm, 444, rfl⟩
abbrev main_call1_call0_v137 : Ref sig .tc := ⟨.hbm, 445, rfl⟩
abbrev main_call1_call0_v138 : Ref sig .tc := ⟨.hbm, 446, rfl⟩
abbrev main_call1_call0_v139 : Ref sig .tc := ⟨.hbm, 447, rfl⟩
abbrev main_call1_call0_c_35 : Ref sig .tc := ⟨.hbm, 448, rfl⟩
abbrev main_call1_call0_v140 : Ref sig .tc := ⟨.hbm, 449, rfl⟩
abbrev main_call1_call0_v141 : Ref sig .tc := ⟨.hbm, 450, rfl⟩
abbrev main_call1_call0_v142 : Ref sig .tc := ⟨.hbm, 451, rfl⟩
abbrev main_call1_call0_c_36 : Ref sig .tc := ⟨.hbm, 452, rfl⟩
abbrev main_call1_call0_v143 : Ref sig .tc := ⟨.hbm, 453, rfl⟩
abbrev main_call1_call0_v144 : Ref sig .tc := ⟨.hbm, 454, rfl⟩
abbrev main_call1_call0_c_37 : Ref sig .tc := ⟨.hbm, 455, rfl⟩
abbrev main_call1_call0_v145 : Ref sig .tc := ⟨.hbm, 456, rfl⟩
abbrev main_call1_call0_v146 : Ref sig .tc := ⟨.hbm, 457, rfl⟩
abbrev main_call1_call0_v147 : Ref sig .tc := ⟨.hbm, 458, rfl⟩
abbrev main_call1_call0_v148 : Ref sig .tc := ⟨.hbm, 459, rfl⟩
abbrev main_call1_call0_v149 : Ref sig .tc := ⟨.hbm, 460, rfl⟩
abbrev main_call1_call0_c_38 : Ref sig .tc := ⟨.hbm, 461, rfl⟩
abbrev main_call1_call0_v150 : Ref sig .tc := ⟨.hbm, 462, rfl⟩
abbrev main_call1_call0_v151 : Ref sig .tc := ⟨.hbm, 463, rfl⟩
abbrev main_call1_call0_c_39 : Ref sig .tc := ⟨.hbm, 464, rfl⟩
abbrev main_call1_call0_v152 : Ref sig .tc := ⟨.hbm, 465, rfl⟩
abbrev main_call1_call0_v153 : Ref sig .tc := ⟨.hbm, 466, rfl⟩
abbrev main_call1_call0_v154 : Ref sig .tc := ⟨.hbm, 467, rfl⟩
abbrev main_call1_call0_v155 : Ref sig .tc := ⟨.hbm, 468, rfl⟩
abbrev main_call1_call0_v156 : Ref sig .tc := ⟨.hbm, 469, rfl⟩
abbrev main_call1_call0_c_40 : Ref sig .tc := ⟨.hbm, 470, rfl⟩
abbrev main_call1_call0_v157 : Ref sig .tc := ⟨.hbm, 471, rfl⟩
abbrev main_call1_call0_v158 : Ref sig .tc := ⟨.hbm, 472, rfl⟩
abbrev main_call1_call0_c_41 : Ref sig .tc := ⟨.hbm, 473, rfl⟩
abbrev main_call1_call0_v159 : Ref sig .tc := ⟨.hbm, 474, rfl⟩
abbrev main_call1_call0_v160 : Ref sig .tc := ⟨.hbm, 475, rfl⟩
abbrev main_call1_call0_v161 : Ref sig .tc := ⟨.hbm, 476, rfl⟩
abbrev main_call1_call0_v162 : Ref sig .tc := ⟨.hbm, 477, rfl⟩
abbrev main_call1_call0_v163 : Ref sig .tc := ⟨.hbm, 478, rfl⟩
abbrev main_call1_call0_c_42 : Ref sig .tc := ⟨.hbm, 479, rfl⟩
abbrev main_call1_call0_v164 : Ref sig .tc := ⟨.hbm, 480, rfl⟩
abbrev main_call1_call0_v165 : Ref sig .tc := ⟨.hbm, 481, rfl⟩
abbrev main_call1_call0_c_43 : Ref sig .tc := ⟨.hbm, 482, rfl⟩
abbrev main_call1_call0_v166 : Ref sig .tc := ⟨.hbm, 483, rfl⟩
abbrev main_call1_call0_v167 : Ref sig .tc := ⟨.hbm, 484, rfl⟩
abbrev main_call1_call0_v168 : Ref sig .tc := ⟨.hbm, 485, rfl⟩
abbrev main_call1_call0_v169 : Ref sig .tc := ⟨.hbm, 486, rfl⟩
abbrev main_call1_call0_v170 : Ref sig .tc := ⟨.hbm, 487, rfl⟩
abbrev main_call1_v19_0 : Ref sig .tc := ⟨.hbm, 488, rfl⟩
abbrev main_call1_call0_v172 : Ref sig .tc := ⟨.hbm, 489, rfl⟩
abbrev main_call1_call0_v173 : Ref sig .tc := ⟨.hbm, 490, rfl⟩
abbrev main_call1_call0_c_44 : Ref sig .tc := ⟨.hbm, 491, rfl⟩
abbrev main_call1_call0_v174 : Ref sig .tc := ⟨.hbm, 492, rfl⟩
abbrev main_call1_v19_1 : Ref sig .tc := ⟨.hbm, 493, rfl⟩
abbrev main_call1_v20 : Ref sig .tc := ⟨.hbm, 494, rfl⟩
abbrev main_call1_c_2 : Ref sig .tc := ⟨.hbm, 495, rfl⟩
abbrev main_call1_v21 : Ref sig .tc := ⟨.hbm, 496, rfl⟩
abbrev main_call1_v22 : Ref sig .tc := ⟨.hbm, 497, rfl⟩
abbrev main_call1_c_3 : Ref sig .tc := ⟨.hbm, 498, rfl⟩
abbrev main_call1_v23 : Ref sig .tc := ⟨.hbm, 499, rfl⟩
abbrev main_call1_v24 : Ref sig .tc := ⟨.hbm, 500, rfl⟩
abbrev main_call1_v25 : Ref sig .tc := ⟨.hbm, 501, rfl⟩
abbrev main_call1_cst : Ref sig .tc := ⟨.hbm, 502, rfl⟩
abbrev main_call1_v26 : Ref sig .tc := ⟨.hbm, 503, rfl⟩
abbrev main_call1_v27 : Ref sig .tc := ⟨.hbm, 504, rfl⟩
abbrev main_call1_v28 : Ref sig .tc := ⟨.hbm, 505, rfl⟩
abbrev main_call1_v29 : Ref sig .tc := ⟨.hbm, 506, rfl⟩
abbrev main_call1_v30 : Ref sig .tc := ⟨.hbm, 507, rfl⟩
abbrev main_call1_v31 : Ref sig .tc := ⟨.hbm, 508, rfl⟩
abbrev main_call1_v32 : Ref sig .tc := ⟨.hbm, 509, rfl⟩
abbrev main_call1_v33 : Ref sig .tc := ⟨.hbm, 510, rfl⟩
abbrev main_v8 : Ref sig .tc := ⟨.hbm, 511, rfl⟩
abbrev main_cst_4 : Ref sig .tc := ⟨.hbm, 512, rfl⟩
abbrev main_v9 : Ref sig .tc := ⟨.hbm, 513, rfl⟩
abbrev main_v10 : Ref sig .tc := ⟨.hbm, 514, rfl⟩
abbrev main_cst_5 : Ref sig .tc := ⟨.hbm, 515, rfl⟩
abbrev main_v11 : Ref sig .tc := ⟨.hbm, 516, rfl⟩
abbrev main_v12 : Ref sig .tc := ⟨.hbm, 517, rfl⟩
abbrev main_v13 : Ref sig .tc := ⟨.hbm, 518, rfl⟩
abbrev main_cst_6 : Ref sig .tc := ⟨.hbm, 519, rfl⟩
abbrev main_v14 : Ref sig .tc := ⟨.hbm, 520, rfl⟩
abbrev main_v15 : Ref sig .tc := ⟨.hbm, 521, rfl⟩
abbrev main_v16 : Ref sig .tc := ⟨.hbm, 522, rfl⟩
abbrev main_cst_7 : Ref sig .tc := ⟨.hbm, 523, rfl⟩
abbrev main_v17 : Ref sig .tc := ⟨.hbm, 524, rfl⟩
abbrev main_v18 : Ref sig .tc := ⟨.hbm, 525, rfl⟩
abbrev main_v19 : Ref sig .tc := ⟨.hbm, 526, rfl⟩
abbrev main_v20 : Ref sig .tc := ⟨.hbm, 527, rfl⟩

abbrev nD : Nat := 1
abbrev τ : Topo := Topo.v7x

variable {F : FTy → Type} [FloatOps F]
-- ==== Proof.Words.lean ====
/- The random word of one element, on 32-bit words and on vectors of them. A round of the generator
   adds the two words and rotates the second; four rounds and an addition of key words make a group,
   five groups the whole. Nothing here mentions either program. -/
module

public import Idealize.ShloMosaic.PureOps
public import Idealize.ShloMosaic.Lib.StableHlo

@[expose] public section

noncomputable section

namespace Cert.Proof.Words

open Idealize.ShloMosaic

/-! ## On words -/

/-- One round: the sum, and the second word rotated left by `d` (`e` is `32 - d`) and combined with the sum. -/
def mix (d e : BitVec 32) (p : BitVec 32 × BitVec 32) : BitVec 32 × BitVec 32 :=
  (p.1 + p.2, (p.2 <<< d ||| p.2 >>> e) ^^^ (p.1 + p.2))

/-- The addition of two key words and a group number. -/
def inj (a b n : BitVec 32) (p : BitVec 32 × BitVec 32) : BitVec 32 × BitVec 32 := (p.1 + a, p.2 + b + n)

/-- Four rounds, rotating by 13, 15, 26 and 6. -/
def four (p : BitVec 32 × BitVec 32) : BitVec 32 × BitVec 32 := mix 6 26 (mix 26 6 (mix 15 17 (mix 13 19 p)))

/-- Four rounds, rotating by 17, 29, 16 and 24. -/
def four' (p : BitVec 32 × BitVec 32) : BitVec 32 × BitVec 32 := mix 24 8 (mix 16 16 (mix 29 3 (mix 17 15 p)))

/-- The twenty rounds at the keys `k0`, `k1` and their third word `k2`, from words the keys are already added to. -/
def rounds (k0 k1 k2 : BitVec 32) (p : BitVec 32 × BitVec 32) : BitVec 32 × BitVec 32 :=
  inj k2 k0 5 (four (inj k1 k2 4 (four' (inj k0 k1 3 (four (inj k2 k0 2 (four' (inj k1 k2 1 (four p)))))))))

/-- The third key word. -/
def third (k0 k1 : BitVec 32) : BitVec 32 := (k0 ^^^ k1) ^^^ 466688986

/-- The generator: the two output words of the counter words `x0`, `x1` at the keys. -/
def threefry (k0 k1 x0 x1 : BitVec 32) : BitVec 32 × BitVec 32 :=
  rounds k0 k1 (third k0 k1) (x0 + k0, x1 + k1)

/-- The key words both programs draw at. -/
def key0 : BitVec 32 := 928981903
def key1 : BitVec 32 := 3453687069
def key2 : BitVec 32 := 3780455752

/-- The 23 random bits of the element with the linear index `j`. -/
def draw (j : BitVec 32) : BitVec 32 :=
  ((rounds key0 key1 key2 (key0, j + key1)).1 ^^^ (rounds key0 key1 key2 (key0, j + key1)).2) >>> (9 : BitVec 32)

/-- The third key word of the keys both programs draw at. -/
theorem third_keys : third key0 key1 = key2 := by decide

/-- `draw` is the generator's two words at the counter words `0` and `j`, combined. -/
theorem draw_eq (j : BitVec 32) :
    draw j = ((threefry key0 key1 0 j).1 ^^^ (threefry key0 key1 0 j).2) >>> (9 : BitVec 32) := by
  unfold draw threefry
  rw [third_keys, show (0 : BitVec 32) + key0 = key0 by decide]

/-! ## On vectors, as the kernel writes it -/

variable {S : Shape}

/-- `mix` lane by lane. -/
def mixV (d e : BitVec 32) (p : IVec S 32 × IVec S 32) : IVec S 32 × IVec S 32 :=
  (addi p.1 p.2, xori (ori (shli p.2 (broadcast S d)) (shrui p.2 (broadcast S e))) (addi p.1 p.2))

/-- `inj` lane by lane. -/
def injV (a b n : BitVec 32) (p : IVec S 32 × IVec S 32) : IVec S 32 × IVec S 32 :=
  (addi p.1 (broadcast S a), addi (addi p.2 (broadcast S b)) (broadcast S n))

def fourV (p : IVec S 32 × IVec S 32) : IVec S 32 × IVec S 32 := mixV 6 26 (mixV 26 6 (mixV 15 17 (mixV 13 19 p)))
def fourV' (p : IVec S 32 × IVec S 32) : IVec S 32 × IVec S 32 := mixV 24 8 (mixV 16 16 (mixV 29 3 (mixV 17 15 p)))

/-- `rounds` lane by lane, at the programs' keys. -/
def roundsV (p : IVec S 32 × IVec S 32) : IVec S 32 × IVec S 32 :=
  injV 3780455752#32 928981903#32 5#32 (fourV (injV 3453687069#32 3780455752#32 4#32 (fourV'
    (injV 928981903#32 3453687069#32 3#32 (fourV (injV 3780455752#32 928981903#32 2#32 (fourV'
      (injV 3453687069#32 3780455752#32 1#32 (fourV p)))))))))

/-- The two words of lane `l`. -/
def lane (p : IVec S 32 × IVec S 32) (l : S.Idx) : BitVec 32 × BitVec 32 := (p.1 l, p.2 l)

/-- A lane of `injV` is `inj` of the lane. -/
theorem lane_inj (a b n : BitVec 32) (p : IVec S 32 × IVec S 32) (l : S.Idx) :
    lane (injV a b n p) l = inj a b n (lane p l) := rfl

/-- A left shift by less than the width is the plain one, on either unit; -/
theorem shl_lt (u : ArithUnit) (x d : BitVec 32) (h : d.toNat < 32) : IntOp.shli u x d = x <<< d := if_pos h

/-- and so is a right shift. -/
theorem shr_lt (u : ArithUnit) (x d : BitVec 32) (h : d.toNat < 32) : IntOp.shrui u x d = x >>> d := if_pos h

/-- A lane of `mixV` is `mix` of the lane. -/
theorem lane_mix (d e : BitVec 32) (hd : d.toNat < 32) (he : e.toNat < 32) (p : IVec S 32 × IVec S 32) (l : S.Idx) :
    lane (mixV d e p) l = mix d e (lane p l) := by
  change (_, _) = (_, _)
  refine Prod.ext rfl ?_
  change (IntOp.shli .vector (p.2 l) d ||| IntOp.shrui .vector (p.2 l) e) ^^^ _ = _
  rw [shl_lt _ _ _ hd, shr_lt _ _ _ he]
  rfl

/-- A lane of `fourV` is `four` of the lane; -/
theorem lane_four (p : IVec S 32 × IVec S 32) (l : S.Idx) : lane (fourV p) l = four (lane p l) := by
  unfold fourV four
  rw [lane_mix _ _ (by decide) (by decide), lane_mix _ _ (by decide) (by decide),
    lane_mix _ _ (by decide) (by decide), lane_mix _ _ (by decide) (by decide)]

/-- and a lane of `fourV'` is `four'` of it. -/
theorem lane_four' (p : IVec S 32 × IVec S 32) (l : S.Idx) : lane (fourV' p) l = four' (lane p l) := by
  unfold fourV' four'
  rw [lane_mix _ _ (by decide) (by decide), lane_mix _ _ (by decide) (by decide),
    lane_mix _ _ (by decide) (by decide), lane_mix _ _ (by decide) (by decide)]

/-- A lane of the vectors' twenty rounds is the twenty rounds of the lane. -/
theorem lane_rounds (p : IVec S 32 × IVec S 32) (l : S.Idx) :
    lane (roundsV p) l = rounds key0 key1 key2 (lane p l) := by
  unfold roundsV rounds
  simp only [lane_inj, lane_four, lane_four']
  rfl

/-- The random bits of a vector of linear indices. -/
def drawV (j : IVec S 32) : IVec S 32 :=
  shrui (xori (roundsV (broadcast S 928981903#32, addi j (broadcast S 3453687069#32))).1
    (roundsV (broadcast S 928981903#32, addi j (broadcast S 3453687069#32))).2) (broadcast S 9#32)

/-- A lane of the vector's bits is the word's. -/
theorem drawV_apply (j : IVec S 32) (l : S.Idx) : drawV j l = draw (j l) := by
  have h := lane_rounds (broadcast S 928981903#32, addi j (broadcast S 3453687069#32)) l
  have h1 := congrArg Prod.fst h
  have h2 := congrArg Prod.snd h
  unfold drawV
  change IntOp.shrui .vector (_ ^^^ _) 9#32 = _
  rw [shr_lt _ _ _ (by decide)]
  change (lane _ l).1 = _ at h1
  change (lane _ l).2 = _ at h2
  unfold lane at h1 h2
  simp only at h1 h2
  rw [h1, h2]
  rfl

/-! ## The sign -/

variable {F : FTy → Type} [FloatOps F]

/-- What the kernel leaves at one element holding `x` with the linear index `j`: `1` or `-1`. -/
def sign (j : BitVec 32) (x : F .f32) : F .f32 :=
  Scalar.select (FloatOps.cmpf .ole (FloatOps.sitofp .f32 (draw j))
      (FloatOps.mulf (FloatOps.addf x (Scalar.ofBits .f32 0x3F800000#32)) (Scalar.ofBits .f32 0x4A800000#32)))
    (Scalar.ofBits .f32 0x3F800000#32) (Scalar.ofBits .f32 0xBF800000#32)

/-- The signs of a vector of elements and their linear indices, as the kernel writes them. -/
def signV (j : IVec S 32) (x : FVec F S .f32) : FVec F S .f32 :=
  select (cmpf .ole (sitofp .f32 (drawV j))
      (mulf (addf x (broadcast S (Scalar.ofBits .f32 0x3F800000#32))) (broadcast S (Scalar.ofBits .f32 0x4A800000#32))))
    (broadcast S (Scalar.ofBits .f32 0x3F800000#32)) (broadcast S (Scalar.ofBits .f32 0xBF800000#32))

/-- A lane of the vector's signs is the element's. -/
theorem signV_apply (j : IVec S 32) (x : FVec F S .f32) (l : S.Idx) : signV j x l = sign (j l) (x l) := by
  unfold sign
  rw [← drawV_apply]
  rfl

end Cert.Proof.Words

end
-- ==== Proof.Blocks.lean ====
/- What the kernel's straight-line parts compute: the generated payloads are the vectors' signs
   (`Words.signV`) of the loaded vector and its linear indices. -/
module

public import proofs.«01_k».proof.Proof.Gen.KernelIdeal.Skeleton
public import proofs.«01_k».proof.Proof.Words

@[expose] public section

noncomputable section

namespace Cert.Proof.Blocks

open Idealize.ShloMosaic Idealize.SL.Sem Cert.KernelIdeal Cert.KernelIdeal.Gen Cert.Proof.Words

variable {F : FTy → Type} [FloatOps F] {S : Shape}

/-! ## The rounds, cut where the printed parts are -/

/-- The words the first rounds start from. -/
def start (j : IVec S 32) : IVec S 32 × IVec S 32 := (broadcast S 928981903#32, addi j (broadcast S 3453687069#32))

def stage1 (j : IVec S 32) : IVec S 32 × IVec S 32 := injV 3453687069#32 3780455752#32 1#32 (fourV (start j))
def stage2 (q : IVec S 32 × IVec S 32) : IVec S 32 × IVec S 32 := mixV 13 19 (injV 3780455752#32 928981903#32 2#32 (fourV' q))
def stage3 (q : IVec S 32 × IVec S 32) : IVec S 32 × IVec S 32 :=
  mixV 16 16 (mixV 29 3 (mixV 17 15 (injV 928981903#32 3453687069#32 3#32 (mixV 6 26 (mixV 26 6 (mixV 15 17 q))))))
def stage4 (q : IVec S 32 × IVec S 32) : IVec S 32 × IVec S 32 :=
  injV 3780455752#32 928981903#32 5#32 (fourV (injV 3453687069#32 3780455752#32 4#32 (mixV 24 8 q)))

/-- The four cuts in a row are the twenty rounds. -/
theorem stages (j : IVec S 32) : stage4 (stage3 (stage2 (stage1 j))) = roundsV (start j) := rfl

/-- The sign from the two words, as the printed text ends. -/
def finish (q : IVec S 32 × IVec S 32) (x : FVec F S .f32) : FVec F S .f32 :=
  select (cmpf .ole (sitofp .f32 (shrui (xori q.1 q.2) (broadcast S 9#32)))
      (mulf (addf x (broadcast S (Scalar.ofBits .f32 0x3F800000#32))) (broadcast S (Scalar.ofBits .f32 0x4A800000#32))))
    (broadcast S (Scalar.ofBits .f32 0x3F800000#32)) (broadcast S (Scalar.ofBits .f32 0xBF800000#32))

/-- The end on the words of all the rounds is the signs. -/
theorem finish_eq (j : IVec S 32) (x : FVec F S .f32) : finish (roundsV (start j)) x = signV j x := rfl

/-! ## The first call's block -/

/-- The linear indices of block `i` of the first call. -/
def idx0 (i : grid0.Coords) : IVec S256x4096 32 :=
  addi (muli (addi (broadcast S256x4096 (Scalar.muli (BitVec.ofNat 32 (i 0).val) 256#32))
      (iota .tc S256x4096 32 [0] iota_S256x4096_d0_w32)) (broadcast S256x4096 4096#32))
    (iota .tc S256x4096 32 [1] iota_S256x4096_d1_w32)

/-- The first call's first part hands on the first word of the first cut; -/
theorem tc1_fst (i : grid0.Coords) : k0_pay10 i = (stage1 (idx0 i)).1 := rfl
/-- its two other values add up to the second word. -/
theorem tc1_snd (i : grid0.Coords) : addi (k0_pay11 i) k0_pay12 = (stage1 (idx0 i)).2 := rfl
/-- The second part hands on the second word of the second cut, -/
theorem tc2_b (a b c : IVec S256x4096 32) : k0_pay23 a b c = (stage2 (a, addi b c)).2 := rfl
/-- the sum of the cut's two words, -/
theorem tc2_s (a b c : IVec S256x4096 32) :
    k0_pay24 a b c = addi (stage2 (a, addi b c)).1 (stage2 (a, addi b c)).2 := rfl
/-- and the second word shifted left for the next round. -/
theorem tc2_l (a b c : IVec S256x4096 32) : k0_pay25 a b c = shli (stage2 (a, addi b c)).2 (broadcast _ 15#32) := rfl
/-- The third part, from these three values, hands on the second word of the third cut, -/
theorem tc3_b (q : IVec S256x4096 32 × IVec S256x4096 32) :
    k0_pay36 q.2 (addi q.1 q.2) (shli q.2 (broadcast _ 15#32)) 17#32 = (stage3 q).2 := rfl
/-- and the sum of its two words. -/
theorem tc3_s (q : IVec S256x4096 32 × IVec S256x4096 32) :
    k0_pay37 q.2 (addi q.1 q.2) (shli q.2 (broadcast _ 15#32)) 17#32 = addi (stage3 q).1 (stage3 q).2 := rfl
/-- The fourth part hands on the first word of the last cut, -/
theorem tc4_a (q : IVec S256x4096 32 × IVec S256x4096 32) : k0_pay46 q.2 (addi q.1 q.2) 24#32 = (stage4 q).1 := rfl
/-- and two values that add up to the second. -/
theorem tc4_b (q : IVec S256x4096 32 × IVec S256x4096 32) :
    addi (k0_pay47 q.2 (addi q.1 q.2) 24#32) k0_pay48 = (stage4 q).2 := rfl
/-- What is stored is the sign from the two words handed on. -/
theorem tc_end (a b c : IVec S256x4096 32) (x : Vec F S256x4096 .f32) : k0_pay1 a b c x = finish (a, addi b c) x := rfl

/-- What the first call's body stores, as its parts hand their values on. -/
def tcOut (i : grid0.Coords) (x : Vec F S256x4096 .f32) : FVec F S256x4096 .f32 :=
  let v85 := k0_pay23 (k0_pay10 i) (k0_pay11 i) k0_pay12
  let v86 := k0_pay24 (k0_pay10 i) (k0_pay11 i) k0_pay12
  let v88 := k0_pay25 (k0_pay10 i) (k0_pay11 i) k0_pay12
  let v133 := k0_pay36 v85 v86 v88 17#32
  let v134 := k0_pay37 v85 v86 v88 17#32
  k0_pay1 (k0_pay46 v133 v134 24#32) (k0_pay47 v133 v134 24#32) k0_pay48 x

/-- It is the signs of the loaded block. -/
theorem tcOut_eq (i : grid0.Coords) (x : Vec F S256x4096 .f32) : tcOut i x = signV (idx0 i) x := by
  have h2 : ((k0_pay10 i, addi (k0_pay11 i) k0_pay12) : IVec S256x4096 32 × IVec S256x4096 32) = stage1 (idx0 i) := by
    rw [tc1_fst, tc1_snd]
  simp only [tcOut]
  rw [tc_end, tc2_b, tc2_s, tc2_l, tc3_b, tc3_s, h2, tc4_a, tc4_b, ← finish_eq, ← stages]

/-! ## A row of the tiles' chunk -/

/-- The linear indices of the sixteen elements from column `16 t` of row `r + v7`. -/
def idx1 (v7 r : BitVec 32) (t : Fin k1_t2_loop.trips) : IVec S16 32 :=
  addi (broadcast S16 (Scalar.addi (Scalar.muli (Scalar.addi v7 r) 4096#32) (Scalar.muli (Scf.iv 0#32 1#32 t) 16#32)))
    (iota .scVector S16 32 [0] iota_S16_d0_w32_scVector)

/-- A row's second part hands on the first word of the second cut, -/
theorem sc2_s (a b : IVec S16 32) :
    k1_pay23 a b = (stage2 (b, addi (addi a (broadcast _ 3780455752#32)) (broadcast _ 1#32))).1 := rfl
/-- and the second word. -/
theorem sc2_b (a b : IVec S16 32) :
    k1_pay24 a b = (stage2 (b, addi (addi a (broadcast _ 3780455752#32)) (broadcast _ 1#32))).2 := rfl
/-- The words of a row's third part before its last round. -/
def early (q : IVec S 32 × IVec S 32) : IVec S 32 × IVec S 32 :=
  mixV 29 3 (mixV 17 15 (injV 928981903#32 3453687069#32 3#32 (mixV 6 26 (mixV 26 6 (mixV 15 17 q)))))

/-- The third part hands on the second word before its last round, -/
theorem sc3_b (a b : IVec S16 32) : k1_pay34 a b = (early (a, b)).2 := rfl
/-- the sum of the two words, -/
theorem sc3_s (a b : IVec S16 32) : k1_pay35 a b = addi (early (a, b)).1 (early (a, b)).2 := rfl
/-- the second word shifted left, -/
theorem sc3_l (a b : IVec S16 32) : k1_pay36 a b = shli (early (a, b)).2 (broadcast _ 16#32) := rfl
/-- and the width of the right shift that is still to do. -/
theorem sc3_c : k1_pay37 = broadcast S16 16#32 := rfl
/-- The last part stores the sign from the first word, handed on as `c`, and the second word of the last cut. -/
theorem sc4_b (q : IVec S16 32 × IVec S16 32) (x : FVec F S16 .f32) (c : IVec S16 32) :
    k1_pay379 x (k1_pay48 q.2 (addi q.1 q.2) (shli q.2 (broadcast _ 16#32)) (broadcast _ 16#32)) c
      = shapeCast S1x16 (finish (c, (stage4 (mixV 16 16 q)).2) x) shapeCasts_S16_S1x16 := rfl
/-- It hands on the first word of the last cut. -/
theorem sc4_a (q : IVec S16 32 × IVec S16 32) :
    k1_pay49 q.2 (addi q.1 q.2) (shli q.2 (broadcast _ 16#32)) (broadcast _ 16#32) = (stage4 (mixV 16 16 q)).1 := rfl

/-- What a row's trip stores, as its parts hand their values on from the first part's two words. -/
def scOut (a b : IVec S16 32) (x : FVec F S16 .f32) : FVec F S1x16 .f32 :=
  let v107 := k1_pay23 a b
  let v113 := k1_pay24 a b
  let v154 := k1_pay34 v107 v113
  let v155 := k1_pay35 v107 v113
  let v157 := k1_pay36 v107 v113
  k1_pay379 x (k1_pay48 v154 v155 v157 k1_pay37) (k1_pay49 v154 v155 v157 k1_pay37)

/-- It is the signs of the loaded elements. -/
theorem scOut_eq (j : IVec S16 32) (x : FVec F S16 .f32) :
    scOut (fourV (start j)).2 (addi (fourV (start j)).1 (broadcast _ 3453687069#32)) x
      = shapeCast S1x16 (signV j x) shapeCasts_S16_S1x16 := by
  simp only [scOut]
  rw [sc2_s, sc2_b, sc3_b, sc3_s, sc3_l, sc3_c, sc4_b, sc4_a, ← finish_eq, ← stages]
  rfl

/-- The program of one trip of a row's loop: sixteen elements of row `r` of the chunk, whose first row is `v7`. -/
def rowBody (i : grid1.Coords) (arg4 arg5 : Memref sig .scVector .vmem S8x4096 .f32) (v7 r : BitVec 32)
    (off : Fin k1_t2_loop.trips → Fin 2 → Nat) (hoff : ∀ t, ∀ a, off t a + S1x16.size a ≤ S8x4096.size a)
    (t : Fin k1_t2_loop.trips) :
    Prog (TpuEff nD τ sig (Elt F) Λ₀ (.scVector ((i 0).castLE hcore1) ((i 1).castLE hsub1))) (BitVec 32) := do
  let x : Vec F S1x16 .f32 ← Prog.lift (.load arg4 (Rect.unit (s := S8x4096) (off t) S1x16.size (hoff t)).toLoadRect (View.loadsAt_vmem h_S1x16))
  let _ : Vec F S1x16 .f32 ← Prog.lift (.load arg5 (Rect.unit (s := S8x4096) (off t) S1x16.size (hoff t)).toLoadRect (View.loadsAt_vmem h_S1x16))
  Prog.lift (.store arg5 (Rect.unit (s := S8x4096) (off t) S1x16.size (hoff t))
    (shapeCast S1x16 (signV (idx1 v7 r t) (shapeCast S16 x shapeCasts_S1x16_S16)) shapeCasts_S16_S1x16)
    Finset.univ (View.stores_vmem_bits_univ h_S1x16 rfl) (.inl rfl))
  pure 0#32

/-- The same trip with the stored value as the parts hand it on. -/
def rowBody' (i : grid1.Coords) (arg4 arg5 : Memref sig .scVector .vmem S8x4096 .f32) (v7 r : BitVec 32)
    (off : Fin k1_t2_loop.trips → Fin 2 → Nat) (hoff : ∀ t, ∀ a, off t a + S1x16.size a ≤ S8x4096.size a)
    (t : Fin k1_t2_loop.trips) :
    Prog (TpuEff nD τ sig (Elt F) Λ₀ (.scVector ((i 0).castLE hcore1) ((i 1).castLE hsub1))) (BitVec 32) := do
  let x : Vec F S1x16 .f32 ← Prog.lift (.load arg4 (Rect.unit (s := S8x4096) (off t) S1x16.size (hoff t)).toLoadRect (View.loadsAt_vmem h_S1x16))
  let _ : Vec F S1x16 .f32 ← Prog.lift (.load arg5 (Rect.unit (s := S8x4096) (off t) S1x16.size (hoff t)).toLoadRect (View.loadsAt_vmem h_S1x16))
  Prog.lift (.store arg5 (Rect.unit (s := S8x4096) (off t) S1x16.size (hoff t))
    (scOut (fourV (start (idx1 v7 r t))).2 (addi (fourV (start (idx1 v7 r t))).1 (broadcast _ 3453687069#32))
      (shapeCast S16 x shapeCasts_S1x16_S16))
    Finset.univ (View.stores_vmem_bits_univ h_S1x16 rfl) (.inl rfl))
  pure 0#32

/-- A row's trip with its values as the parts hand them on is the trip that stores the signs. -/
theorem rowBody'_eq : rowBody' (F := F) = rowBody := by
  funext i arg4 arg5 v7 r off hoff t
  unfold rowBody rowBody'
  simp only [scOut_eq]

section Rows

variable (i : grid1.Coords) (arg2 : Memref sig .scVector .hbm S16384x4096 .f32) (harg2 : arg2.IsWhole) (arg3 : Memref sig .scVector .hbm S4096x4096 .f32) (harg3 : arg3.IsWhole)
    (arg4 : Memref sig .scVector .vmem S8x4096 .f32) (harg4 : arg4.IsWhole) (arg5 : Memref sig .scVector .vmem S8x4096 .f32) (harg5 : arg5.IsWhole)
    (v25_r0 v25_r1 : DmaSems sig S_)
  (v3 : BitVec 32) (t1 : Fin k1_t1_loop.trips) (v7 : BitVec 32) (t : Fin k1_t2_loop.trips) (acc : BitVec 32)

/-- The trip of the chunk's first row; -/
theorem row0 : k1_t2_body (F := F) i arg2 harg2 arg3 harg3 arg4 harg4 arg5 harg5 v25_r0 v25_r1 v3 0#32 1#32 t1 v7 t acc
    = rowBody i arg4 arg5 v7 0#32 k1_off2 k1_off2_inb t := by
  rw [← rowBody'_eq]; rfl

/-! and of the other seven. -/

/-- The trip of the chunk's row 1, counted from 0, is the common trip. -/
theorem row1 : k1_t3_body (F := F) i arg2 harg2 arg3 harg3 arg4 harg4 arg5 harg5 v25_r0 v25_r1 v3 0#32 1#32 t1 v7 t acc
    = rowBody i arg4 arg5 v7 1#32 k1_off3 k1_off3_inb t := by
  rw [← rowBody'_eq]; rfl
/-- The trip of the chunk's row 2, counted from 0, is the common trip. -/
theorem row2 : k1_t4_body (F := F) i arg2 harg2 arg3 harg3 arg4 harg4 arg5 harg5 v25_r0 v25_r1 v3 0#32 1#32 t1 v7 t acc
    = rowBody i arg4 arg5 v7 2#32 k1_off4 k1_off4_inb t := by
  rw [← rowBody'_eq]; rfl
/-- The trip of the chunk's row 3, counted from 0, is the common trip. -/
theorem row3 : k1_t5_body (F := F) i arg2 harg2 arg3 harg3 arg4 harg4 arg5 harg5 v25_r0 v25_r1 v3 0#32 1#32 t1 v7 t acc
    = rowBody i arg4 arg5 v7 3#32 k1_off5 k1_off5_inb t := by
  rw [← rowBody'_eq]; rfl
/-- The trip of the chunk's row 4, counted from 0, is the common trip. -/
theorem row4 : k1_t6_body (F := F) i arg2 harg2 arg3 harg3 arg4 harg4 arg5 harg5 v25_r0 v25_r1 v3 0#32 1#32 t1 v7 t acc
    = rowBody i arg4 arg5 v7 4#32 k1_off6 k1_off6_inb t := by
  rw [← rowBody'_eq]; rfl
/-- The trip of the chunk's row 5, counted from 0, is the common trip. -/
theorem row5 : k1_t7_body (F := F) i arg2 harg2 arg3 harg3 arg4 harg4 arg5 harg5 v25_r0 v25_r1 v3 0#32 1#32 t1 v7 t acc
    = rowBody i arg4 arg5 v7 5#32 k1_off7 k1_off7_inb t := by
  rw [← rowBody'_eq]; rfl
/-- The trip of the chunk's row 6, counted from 0, is the common trip. -/
theorem row6 : k1_t8_body (F := F) i arg2 harg2 arg3 harg3 arg4 harg4 arg5 harg5 v25_r0 v25_r1 v7 0#32 t acc
    = rowBody i arg4 arg5 v7 6#32 k1_off8 k1_off8_inb t := by
  rw [← rowBody'_eq]; rfl
/-- The trip of the chunk's row 7, counted from 0, is the common trip. -/
theorem row7 : k1_t9_body (F := F) i arg2 harg2 arg3 harg3 arg4 harg4 arg5 harg5 v25_r0 v25_r1 v7 t acc
    = rowBody i arg4 arg5 v7 7#32 k1_off9 k1_off9_inb t := by
  rw [← rowBody'_eq]; rfl

end Rows

end Cert.Proof.Blocks

end
-- ==== Proof.Values.lean ====
/- What each block leaves in the result array: the linear index of every lane is its element's row
   times 4096 plus its column, so every block is `Words.sign` of its elements. -/
module

public import proofs.«01_k».proof.Proof.Blocks
public import Idealize.ShloMosaic.Lib.Pipeline.Value

@[expose] public section

noncomputable section

namespace Cert.Proof.Values

open Idealize.ShloMosaic Idealize.SL.Sem Cert.KernelIdeal Cert.KernelIdeal.Gen Cert.Proof.Words Cert.Proof.Blocks

variable {F : FTy → Type} [FloatOps F]

/-- The linear index of the element in row `r` and column `c`. -/
def lin (r c : Nat) : BitVec 32 := BitVec.ofNat 32 (r * 4096 + c)

/-- The result array: every element's sign at its own linear index. -/
def out (x : S16384x4096.Idx → F .f32) (i : S16384x4096.Idx) : F .f32 := sign (lin (i 0).val (i 1).val) (x i)

/-- A lane of the first call's linear indices. -/
theorem idx0_apply (i : grid0.Coords) (y : S256x4096.Idx) : idx0 i y = lin (256 * (i 0).val + (y 0).val) (y 1).val := by
  unfold idx0
  simp only [addi, muli, broadcast]
  rw [iota_single_apply, iota_single_apply]
  simp only [IntOp.addi, IntOp.muli, Scalar.muli, lin, BitVec.ofNat_add, BitVec.ofNat_mul]
  rw [BitVec.mul_comm (BitVec.ofNat 32 (i 0).val)]

/-- The first call's stored block at lane `y`. -/
theorem tcOut_apply (i : grid0.Coords) (x : Vec F S256x4096 .f32) (y : S256x4096.Idx) :
    tcOut i x y = sign (lin (256 * (i 0).val + (y 0).val) (y 1).val) (x y) := by
  rw [tcOut_eq, signV_apply, idx0_apply]

/-- A lane of a row trip's linear indices. -/
theorem idx1_apply (R r : Nat) (t : Fin k1_t2_loop.trips) (l : S16.Idx) :
    idx1 (BitVec.ofNat 32 R) (BitVec.ofNat 32 r) t l = lin (R + r) (16 * t.val + (l 0).val) := by
  unfold idx1
  simp only [addi, broadcast]
  rw [iota_single_apply]
  simp only [IntOp.addi, Scalar.addi, Scalar.muli, IntOp.muli, Scf.iv, lin, BitVec.ofNat_add, BitVec.ofNat_mul]
  simp only [BitVec.mul_comm, BitVec.add_assoc]
  congr 2
  simp [BitVec.mul_comm]

/-- A row trip's stored vector at lane `y`. -/
theorem row_apply (R r : Nat) (t : Fin k1_t2_loop.trips) (x : FVec F S1x16 .f32) (y : S1x16.Idx) :
    shapeCast S1x16 (signV (idx1 (BitVec.ofNat 32 R) (BitVec.ofNat 32 r) t) (shapeCast S16 x shapeCasts_S1x16_S16))
        shapeCasts_S16_S1x16 y
      = sign (lin (R + r) (16 * t.val + (y 1).val)) (x y) := by
  have h := shapeCast_addUnit_apply (n := 1) ![16] (signV (F := F) (idx1 (BitVec.ofNat 32 R) (BitVec.ofNat 32 r) t) (shapeCast S16 x shapeCasts_S1x16_S16))
    shapeCasts_S16_S1x16 y
  refine h.trans ((signV_apply (S := S16) _ _ _).trans ?_)
  have hx := shapeCast_dropUnit_apply (n := 1) ![16] x shapeCasts_S1x16_S16 (fun a => y a.succ)
  refine congrArg₂ sign (idx1_apply R r t fun a => y a.succ) (hx.trans (congrArg x (funext fun a => ?_)))
  match a with
  | 0 => exact Fin.ext (by have := (y 0).isLt; simp at this; exact this.symm)
  | 1 => rfl

end Cert.Proof.Values

end
-- ==== Proof.Setup.lean ====
/- The kernel's launch as the library's launch theorem sees it: its configuration, the resource
   algebra of the handshakes, the two pipelines and the transfers, and the arrays' locations. -/
module

public import proofs.«01_k».proof.Defs
public import proofs.«01_k».proof.Proof.Values
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
/-- The SparseCore call runs on sixteen tiles of a SparseCore, -/
theorem nSub_zero : (K (F := F)).nSub 0 = 16 := rfl
/-- and on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's configuration meets the launch's conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The arrays -/

abbrev xLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

end Cert.Proof.Run

end
-- ==== Proof.Regions.lean ====
/- A TensorCore call of @main as the library's region, for either of the two pipelines: the arrays in
   and out of the thread's buffers, the tallies owed to the SparseCores carried across. -/
module

public import proofs.«01_k».proof.Proof.Setup
public import Idealize.ShloMosaic.Lib.Pipeline.ValueKit
public import Idealize.ShloMosaic.Lib.Pipeline.Regions

@[expose] public section

noncomputable section

namespace Cert.Proof.Run

open Cert.KernelIdeal Cert.KernelIdeal.Gen Cert.Proof.Words Cert.Proof.Blocks Cert.Proof.Values

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-- A memory reference's buffer on device `c`'s TensorCore, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable (V : (c : Dev nD) → (b : Ref sig .tc) → Buf (Elt F) ((c : Thread nD τ).loc b))
variable (O : Dev nD → CellTallies nD τ sig (HIx 1)) (b : ℕ)

/-- The pairs the TensorCore's waits may have recorded up to level `b`. -/
def below (c : Dev nD) (b : ℕ) : Set (SemLoc sig × HIx 1) := {p | (K (F := F)).lev ((c : Thread nD τ), p.1) p.2 ≤ b}

/-- Pairs within a level, with a loop's own, are within it. -/
theorem below_pairs (c : Dev nD) (b : ℕ) (cfg : Pipeline.Cfg sig Λ₀) (W : Waits sig (HIx 1))
    (h : ↑W ⊆ below (F := F) c b ∪ cfg.waitPairs none) : (K (F := F)).WBelow (c : Thread nD τ) W b := by
  intro p hp
  rcases h hp with h | ⟨w, s, rfl⟩
  · exact h
  · exact Nat.zero_le _

/-- What the TensorCore carries of its tallies and waits. -/
abbrev ow (c : Dev nD) (b : ℕ) (o : CellTallies nD τ sig (HIx 1)) : sProp 𝕄 :=
  iprop(∃ W, ⌜(K (F := F)).WBelow (c : Thread nD τ) W b⌝ ∗ owes (c : Thread nD τ) o W)

variable (adm : (p : Fin 2) → (pcfgs (F := F) p).Adm)
variable (dats : (p : Fin 2) → (c : Dev nD) → Dat τ (Elt F) (HIx 1) ℕ UU ℕ (Pipeline.pin (pcfgs (F := F)) adm p) c)
variable (V' : (c : Dev nD) → (b : Ref sig .tc) → Buf (Elt F) ((c : Thread nD τ).loc b))

/-- What a pipeline's proof data say in common: the arrays at `V` before it and at `V'` after, the
    scoped buffers beside it untouched, and the tallies `O` owed throughout. -/
structure Plain (p : Fin 2) : Prop where
  A : ∀ c w, (dats p c).A w = V c (Pipeline.arrRef (pcfgs (F := F) p).spec w)
  Φ : ∀ c t, (dats p c).Φ t = Pipeline.scopedRest (Ix := HIx 1) (Name := ℕ) (U := UU) (Lvl := ℕ) (Val := Elt F) (pcfgs (F := F) p).spec c
  q : ∀ c w, (dats p c).q w = fullShare
  owed : ∀ c t, (dats p c).owed t = O c
  recorded : ∀ c t, (dats p c).recorded t = below (F := F) c b
  body : ∀ c, Pipeline.BodyObligationLoose (dats p c) (defs₀ (F := F)) 𝒱₀ none Set.univ
  after : ∀ c w, (dats p c).arrAt w (Pipeline.pin (pcfgs (F := F)) adm p).N = V' c (Pipeline.arrRef (pcfgs (F := F) p).spec w)
  rest : ∀ c (r : Ref sig .tc), r ∉ Finset.univ.image (Pipeline.arrRef (pcfgs (F := F) p).spec) → V' c r = V c r

/-- Neither pipeline has a prefetched table. -/
theorem noTables (p : Fin 2) (c : Dev nD) :
    (BI.emp : sProp 𝕄) ⊢ Pipeline.prefHeld (pcfgs (F := F) p).pre c (fun _ => fullShare) (adm p).1 := by
  match p with
  | 0 | 1 =>
    unfold Pipeline.prefHeld
    rw [show (Finset.univ : Finset (Fin 0)) = ∅ from rfl, BI.bigSep_empty]

/-- A call's region: from every array at `V` to every array at `V'`, the tallies owed kept. -/
def reg (p : Fin 2) (hl : Pipeline.LaunchFacts (nD := nD) (τ := τ) (Pipeline.pin (pcfgs (F := F)) adm) p) (hp : Plain V O b adm dats V' p) (hO : ∀ c g, O c g none = 0) :
    Pipeline.RegionSeg (pcfgs (F := F)) adm dats none defs₀ 𝒱₀ (K (F := F)).L (K (F := F)).lev p where
  win := hl.win.to₀
  block_pos := hl.block_pos
  stage_whole := hl.stage_whole
  K := PEmpty
  osem k := k.elim
  ho := Pipeline.OwnSemFacts.none _
  hbody := hp.body
  hwaits c := by
    refine Pipeline.cellsWaits_intro _ _ _ _ _ fun w s t => ?_
    rw [hp.owed]
    exact (K (F := F)).mayWait_none _ (hO c)
  pre c := iprop(unscopedBufs c (V c) ∗ ow (F := F) c b (O c))
  post c := iprop(unscopedBufs c (V' c) ∗ ow (F := F) c b (O c))
  X _ := BI.emp
  Y _ := BI.emp
  Z c := Pipeline.unscopedRest (Ix := HIx 1) (Name := ℕ) (U := UU) (Lvl := ℕ) (pcfgs (F := F) p).spec c (V c)
  hentry c := by
    rw [Pipeline.ownSems0_none]
    have hsplit := Pipeline.arrays_of_unscopedBufs (p := p) (pcfgs (F := F)) adm dats hl.win hl.arr_whole c
      ((dats p c).share_full (hp.q c)) (V c) (hp.A c)
    iintro ⟨⟨Hub, HO⟩, -, -⟩
    ihave H := hsplit $$ Hub
    icases H with ⟨Ha, Hrest⟩
    imodintro
    isplitl [Ha]; · iexact Ha
    isplitr; · iapply noTables adm p c; iempintro
    isplitl [HO]
    · unfold Pipeline.Dat.owesAt Pipeline.owesWithin Pipeline.Dat.bound
      rw [hp.owed, hp.recorded]
      icases HO with ⟨%W, %hW, HO⟩; iexists W; isplitr; · ipureintro; exact fun p hp => Or.inl (hW p hp)
      iexact HO
    isplitr; · iempintro
    iexact Hrest
  hin c := by
    rw [hp.Φ]
    iintro ⟨-, -, Hr⟩; iexact Hr
  hout c := by
    rw [Pipeline.ownSems0_none, hp.Φ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) hl.win hl.arr_whole c
      dats ((dats p c).share_full (hp.q c)) (V c) (V' c) ((dats p c).arrAt · (Pipeline.pin (pcfgs (F := F)) adm p).N)
      (hp.after c) (hp.rest c)
    iintro ⟨Ha, HO, -, Hrest⟩
    imodintro
    isplitl [Ha Hrest]
    · iapply hjoin; isplitl [Ha] <;> iassumption
    unfold Pipeline.Dat.owesAt Pipeline.owesWithin Pipeline.Dat.bound
    rw [hp.owed, hp.recorded]
    icases HO with ⟨%W, %hW, HO⟩; iexists W; isplitr; · ipureintro; exact below_pairs c b _ W hW
    iexact HO

end Cert.Proof.Run

end
-- ==== Proof.Region0.lean ====
/- The first call of @main: its pipeline writes the signs of the matrix's first 12288 rows, block by
   block, into the result array. -/
module

public import proofs.«01_k».proof.Proof.Regions
public import Idealize.ShloMosaic.Lib.Pipeline.ValueKit
public import Idealize.ShloMosaic.Lib.VecWindow
public import Idealize.ShloMosaic.Lib.Pipeline.Regions

@[expose] public section

noncomputable section

namespace Cert.Proof.Run

open Cert.KernelIdeal Cert.KernelIdeal.Gen Cert.Proof.Words Cert.Proof.Blocks Cert.Proof.Values

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-- The first call's body at one grid point: from its two staging buffers, the input's kept and the
    output's left reading the signs of the input's block. -/
theorem body0 (c : Dev nD) (i : grid0.Coords) (M0 : Memref sig .tc .vmem S256x4096 .f32) (h0 : M0.IsWhole)
    (M1 : Memref sig .tc .vmem S256x4096 .f32) (h1 : M1.IsWhole) (f0 : Bf (F := F) c M0) (f1 : Bf (F := F) c M1)
    (Q : PUnit → sProp 𝕄) :
    iprop(pt c M0 f0 ∗ pt c M1 f1 ∗ (∀ W : Bf (F := F) c M1, ⌜M1.view.read (Elt F) W = tcOut i (M0.view.read (Elt F) f0)⌝ -∗ pt c M0 f0 -∗ pt c M1 W -∗ Q ⟨⟩))
      ⊢ wp frame (wpE (defs₀ (F := F)) 𝒱₀ c none) Set.univ (cc0__tc_kernel i M0 h0 M1 h1) Q := by
  rw [cc0__tc_kernel_eq_skeleton]
  unfold cc0__tc_kernel_skel
  rw [k0_part1_eq_skeleton, k0_part2_eq_skeleton, k0_part3_eq_skeleton, k0_part4_eq_skeleton]
  unfold k0_part1_skel k0_part2_skel k0_part3_skel k0_part4_skel
  iintro ⟨H0, H1, Hk⟩
  sl_exec
  sl_step
  iapply Hk $$ %(M1.view.writes (Elt F) f1 [⟨Rect.unit (s := S256x4096) ![0, 0] S256x4096.size inb_S256x4096_S256x4096_0_0,
    tcOut i (M0.view.readAt (Elt F) (Rect.unit (s := S256x4096) ![0, 0] S256x4096.size inb_S256x4096_S256x4096_0_0).toLoadRect f0)⟩]) [] [H0] [H1]
  · ipureintro
    exact (View.read_writes_full ..).trans (congrArg (tcOut i) (View.readAt_full ..))
  · iexact H0
  · iexact H1

/-! ## The proof data -/

variable (V : (c : Dev nD) → (b : Ref sig .tc) → Buf (Elt F) ((c : Thread nD τ).loc b))
variable (O : Dev nD → CellTallies nD τ sig (HIx 1)) (b : ℕ)

/-- A block of the matrix as the pipeline fetches it. -/
abbrev in0 (c : Dev nD) (t : Fin cfg0.N) : (cfg0.win 0).block.Idx → Elt F (cfg0.win 0).elt :=
  ((cfg0.win 0).blk t).view.read (Elt F) (V c main_arg0)

/-- What rides beside the pipeline: the scoped buffers it does not stage. -/
abbrev rest0 (c : Dev nD) : sProp 𝕄 := Pipeline.scopedRest (Ix := HIx 1) (Name := ℕ) (U := UU) (Lvl := ℕ) (Val := Elt F) spec0 c

/-- The proof data of the first call. -/
def dat0 (c : Dev nD) : Dat τ (Elt F) (HIx 1) ℕ UU ℕ cfg0 c where
  A w := V c (Pipeline.arrRef spec0 w)
  after w t := match w with
    | ⟨0, _⟩ => in0 V c t
    | ⟨1, _⟩ => tcOut (grid0.coords t) (in0 V c t)
  Φ _ := rest0 c
  q _ := fullShare
  owed _ := O c
  recorded _ := below (F := F) c b

/-- The input's staging buffer holds the block fetched. -/
theorem before0 (c : Dev nD) (t : Fin cfg0.N) (d : (cfg0.win 0).block.Idx → Elt F (cfg0.win 0).elt) :
    (dat0 V O b c).before 0 t d = in0 V c t := by
  unfold Dat.before; rw [if_pos (fetch0_0 t)]; rfl

/-- The library's body obligation of the first call. -/
theorem obl0 (c : Dev nD) : BodyObligation (dat0 V O b c) (defs₀ (F := F)) 𝒱₀ none Set.univ := fun t => by
  rw [bigSep_W0, bigSep_W0]
  simp only [owns]
  rw [show (dat0 V O b c).Φ t.castSucc = rest0 c from rfl, show (dat0 V O b c).Φ t.succ = rest0 c from rfl,
    show (dat0 V O b c).owesAt none t.succ = (dat0 V O b c).owesAt none t.castSucc from rfl]
  iintro ⟨HΦ, Howes, ⟨%d0, %f0, %hf0, H0⟩, ⟨%d1, %f1, -, H1⟩⟩
  rw [before0] at hf0
  have s0 : (st0_0 t).view.set = Finset.univ := (hstage0_0 ((cfg0.slots t 0).cast nbuf0_0)).set_eq_univ
  have s1 : (st0_1 t).view.set = Finset.univ := (hstage0_1 ((cfg0.slots t 1).cast nbuf0_1)).set_eq_univ
  rw [s0, s1]
  iapply (body0 (F := F) c (grid0.coords t) (st0_0 t) (hstage0_0 ((cfg0.slots t 0).cast nbuf0_0)) (st0_1 t)
    (hstage0_1 ((cfg0.slots t 1).cast nbuf0_1)) f0 f1 _)
  isplitl [H0]; · iexact H0
  isplitl [H1]; · iexact H1
  iintro %W %hW H0 H1
  isplitl [HΦ]; · iexact HΦ
  isplitl [Howes]; · iexact Howes
  isplitl [H0]
  · iexists f0
    isplitr; · ipureintro; exact hf0
    iexact H0
  · iexists W
    isplitr; · ipureintro; rw [hW, hf0]; rfl
    iexact H1

/-! ## The region -/

variable (adm : (p : Fin 2) → (pcfgs (F := F) p).Adm)
variable (dats : (p : Fin 2) → (c : Dev nD) → Dat τ (Elt F) (HIx 1) ℕ UU ℕ (Pipeline.pin (pcfgs (F := F)) adm p) c)
variable (V' : (c : Dev nD) → (b : Ref sig .tc) → Buf (Elt F) ((c : Thread nD τ).loc b))

/-- The first call's proof data are as the region asks. -/
theorem plain0 (hd : dats 0 = dat0 V O b) (hV_out : ∀ c, V' c main_v0 = (dat0 V O b c).arrAt 1 cfg0.N)
    (hV_ne : ∀ c (r : Ref sig .tc), r ≠ main_v0 → V' c r = V c r) : Plain V O b adm dats V' 0 where
  A c w := by rw [hd]; rfl
  Φ c t := by rw [hd]; rfl
  q c w := by rw [hd]; rfl
  owed c t := by rw [hd]; rfl
  recorded c t := by rw [hd]; rfl
  body c := by rw [hd]; exact (obl0 V O b c).loose
  after c w := by
    rw [hd]
    fin_cases w
    · exact ((dat0 V O b c).arrAt_in 0 rfl _).trans (hV_ne c main_arg0 (by decide)).symm
    · exact (hV_out c).symm
  rest c r hr := hV_ne c r fun h => hr (h ▸ Finset.mem_image.mpr ⟨1, Finset.mem_univ _, rfl⟩)

/-! ## What it leaves -/

/-- The result array after the first call: the signs on the first 12288 rows, the rest as it was. -/
theorem arr0 (c : Dev nD) (i : S16384x4096.Idx) :
    (dat0 V O b c).arrAt 1 cfg0.N i = if (i 0).val < 12288 then out (V c main_arg0) i else V c main_v0 i := by
  refine congrFun ((dat0 V O b c).arrAt_eq_of_coversWhere 1 (out (V c main_arg0)) (P := fun i => (i 0).val < 12288)
    (fun β => β (0 : Fin 2) < 48) (by decide +kernel) (fun t hf y => ?_) (fun j => ?_)) i
  · blk_simp
    show tcOut (grid0.coords t) (in0 V c t) y = _
    rw [tcOut_apply]
    have hc : (grid0.coords t 0).val < 48 := (grid0.coords t 0).isLt
    have e0 : ((win0_1.blk t).view.emb y 0).val = 256 * (grid0.coords t 0).val + (y 0).val := by
      show (BitVec.ofNat 32 (grid0.coords t 0).val).toNat * 256 + 1 * (y 0).val = _
      rw [BitVec.toNat_ofNat]
      omega
    have e1 : ((win0_1.blk t).view.emb y 1).val = (y 1).val := by
      show 0 * 4096 + 1 * (y 1).val = _
      omega
    unfold out
    rw [e0, e1]
    rfl
  · blk_simp [Pipeline.Window.cell_apply]
    omega

end Cert.Proof.Run

end
-- ==== Proof.Region1.lean ====
/- The last call of @main: its pipeline copies the SparseCore call's array, block by block, into the
   result's last 4096 rows. -/
module

public import proofs.«01_k».proof.Proof.Regions
public import Idealize.ShloMosaic.Lib.Pipeline.ValueKit
public import Idealize.ShloMosaic.Lib.VecWindow
public import Idealize.ShloMosaic.Lib.Pipeline.Regions

@[expose] public section

noncomputable section

namespace Cert.Proof.Run

open Cert.KernelIdeal Cert.KernelIdeal.Gen Cert.Proof.Words Cert.Proof.Blocks Cert.Proof.Values

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-- The last call's body stores what it loads. -/
theorem copied (x : Vec F S256x4096 .f32) : k2_pay1 x = x := shapeCast_self _ _

/-- The last call's body at one grid point: from its two staging buffers, the input's kept and the
    output's left reading the input's block. -/
theorem body2 (c : Dev nD) (i : grid2.Coords) (M0 : Memref sig .tc .vmem S256x4096 .f32) (h0 : M0.IsWhole)
    (M1 : Memref sig .tc .vmem S256x4096 .f32) (h1 : M1.IsWhole) (f0 : Bf (F := F) c M0) (f1 : Bf (F := F) c M1)
    (Q : PUnit → sProp 𝕄) :
    iprop(pt c M0 f0 ∗ pt c M1 f1 ∗ (∀ W : Bf (F := F) c M1, ⌜M1.view.read (Elt F) W = (M0.view.read (Elt F) f0)⌝ -∗ pt c M0 f0 -∗ pt c M1 W -∗ Q ⟨⟩))
      ⊢ wp frame (wpE (defs₀ (F := F)) 𝒱₀ c none) Set.univ (cc2__assemble_kernel i (Memref.whole main_v0) (Memref.isWhole_whole _) M0 h0 M1 h1) Q := by
  rw [cc2__assemble_kernel_eq_skeleton]
  unfold cc2__assemble_kernel_skel
  iintro ⟨H0, H1, Hk⟩
  sl_exec
  sl_step
  iapply Hk $$ %(M1.view.writes (Elt F) f1 [⟨Rect.unit (s := S256x4096) ![0, 0] S256x4096.size inb_S256x4096_S256x4096_0_0,
    k2_pay1 (M0.view.readAt (Elt F) (Rect.unit (s := S256x4096) ![0, 0] S256x4096.size inb_S256x4096_S256x4096_0_0).toLoadRect f0)⟩]) [] [H0] [H1]
  · ipureintro
    exact (View.read_writes_full ..).trans ((copied _).trans (View.readAt_full ..))
  · iexact H0
  · iexact H1

/-! ## The proof data -/

variable (V : (c : Dev nD) → (b : Ref sig .tc) → Buf (Elt F) ((c : Thread nD τ).loc b))
variable (O : Dev nD → CellTallies nD τ sig (HIx 1)) (b : ℕ)

/-- A block of the SparseCore call's array as the pipeline fetches it. -/
abbrev in2 (c : Dev nD) (t : Fin cfg2.N) : (cfg2.win 0).block.Idx → Elt F (cfg2.win 0).elt :=
  ((cfg2.win 0).blk t).view.read (Elt F) (V c main_v1)

/-- What rides beside the pipeline: the scoped buffers it does not stage. -/
abbrev rest2 (c : Dev nD) : sProp 𝕄 := Pipeline.scopedRest (Ix := HIx 1) (Name := ℕ) (U := UU) (Lvl := ℕ) (Val := Elt F) spec2 c

/-- The proof data of the last call. -/
def dat2 (c : Dev nD) : Dat τ (Elt F) (HIx 1) ℕ UU ℕ cfg2 c where
  A w := V c (Pipeline.arrRef spec2 w)
  after w t := match w with
    | ⟨0, _⟩ => in2 V c t
    | ⟨1, _⟩ => in2 V c t
  Φ _ := rest2 c
  q _ := fullShare
  owed _ := O c
  recorded _ := below (F := F) c b

/-- The input's staging buffer holds the block fetched. -/
theorem before2 (c : Dev nD) (t : Fin cfg2.N) (d : (cfg2.win 0).block.Idx → Elt F (cfg2.win 0).elt) :
    (dat2 V O b c).before 0 t d = in2 V c t := by
  unfold Dat.before; rw [if_pos (fetch2_0 t)]; rfl

/-- The library's body obligation of the last call. -/
theorem obl2 (c : Dev nD) : BodyObligation (dat2 V O b c) (defs₀ (F := F)) 𝒱₀ none Set.univ := fun t => by
  rw [bigSep_W2, bigSep_W2]
  simp only [owns]
  rw [show (dat2 V O b c).Φ t.castSucc = rest2 c from rfl, show (dat2 V O b c).Φ t.succ = rest2 c from rfl,
    show (dat2 V O b c).owesAt none t.succ = (dat2 V O b c).owesAt none t.castSucc from rfl]
  iintro ⟨HΦ, Howes, ⟨%d0, %f0, %hf0, H0⟩, ⟨%d1, %f1, -, H1⟩⟩
  rw [before2] at hf0
  have s0 : (st2_0 t).view.set = Finset.univ := (hstage2_0 ((cfg2.slots t 0).cast nbuf2_0)).set_eq_univ
  have s1 : (st2_1 t).view.set = Finset.univ := (hstage2_1 ((cfg2.slots t 1).cast nbuf2_1)).set_eq_univ
  rw [s0, s1]
  iapply (body2 (F := F) c (grid2.coords t) (st2_0 t) (hstage2_0 ((cfg2.slots t 0).cast nbuf2_0)) (st2_1 t)
    (hstage2_1 ((cfg2.slots t 1).cast nbuf2_1)) f0 f1 _)
  isplitl [H0]; · iexact H0
  isplitl [H1]; · iexact H1
  iintro %W %hW H0 H1
  isplitl [HΦ]; · iexact HΦ
  isplitl [Howes]; · iexact Howes
  isplitl [H0]
  · iexists f0
    isplitr; · ipureintro; exact hf0
    iexact H0
  · iexists W
    isplitr; · ipureintro; rw [hW, hf0]; rfl
    iexact H1

/-! ## The region -/

variable (adm : (p : Fin 2) → (pcfgs (F := F) p).Adm)
variable (dats : (p : Fin 2) → (c : Dev nD) → Dat τ (Elt F) (HIx 1) ℕ UU ℕ (Pipeline.pin (pcfgs (F := F)) adm p) c)
variable (V' : (c : Dev nD) → (b : Ref sig .tc) → Buf (Elt F) ((c : Thread nD τ).loc b))

/-- The last call's proof data are as the region asks. -/
theorem plain2 (hd : dats 1 = dat2 V O b) (hV_out : ∀ c, V' c main_v2 = (dat2 V O b c).arrAt 1 cfg2.N)
    (hV_ne : ∀ c (r : Ref sig .tc), r ≠ main_v2 → V' c r = V c r) : Plain V O b adm dats V' 1 where
  A c w := by rw [hd]; rfl
  Φ c t := by rw [hd]; rfl
  q c w := by rw [hd]; rfl
  owed c t := by rw [hd]; rfl
  recorded c t := by rw [hd]; rfl
  body c := by rw [hd]; exact (obl2 V O b c).loose
  after c w := by
    rw [hd]
    fin_cases w
    · exact ((dat2 V O b c).arrAt_in 0 rfl _).trans (hV_ne c main_v1 (by decide)).symm
    · exact (hV_out c).symm
  rest c r hr := hV_ne c r fun h => hr (h ▸ Finset.mem_image.mpr ⟨1, Finset.mem_univ _, rfl⟩)

/-! ## What it leaves -/

/-- The row of the SparseCore call's array that the result's row `i` comes from. -/
def down (i : S16384x4096.Idx) : S4096x4096.Idx := fun a =>
  match a with
  | 0 => ⟨(i 0).val - 12288, by have h : (i 0).val < 16384 := (i 0).isLt; show _ < 4096; omega⟩
  | 1 => ⟨(i 1).val, (i 1).isLt⟩

/-- The result after the last call: the SparseCore call's array on the rows from 12288 on, the rest as it was. -/
theorem arr2 (c : Dev nD) (i : S16384x4096.Idx) :
    (dat2 V O b c).arrAt 1 cfg2.N i = if 12288 ≤ (i 0).val then V c main_v1 (down i) else V c main_v2 i := by
  refine congrFun ((dat2 V O b c).arrAt_eq_of_coversWhere 1 (fun i => V c main_v1 (down i)) (P := fun i => 12288 ≤ (i 0).val)
    (fun β => 48 ≤ β (0 : Fin 2)) (by decide +kernel) (fun t hf y => ?_) (fun j => ?_)) i
  · blk_simp
    show V c main_v1 ((win2_0.blk t).view.emb y) = V c main_v1 (down _)
    have hc : (grid2.coords t 0).val < 16 := (grid2.coords t 0).isLt
    refine congrArg (V c main_v1) (funext fun a => ?_)
    match a with
    | 0 =>
      refine Fin.ext ?_
      show (BitVec.ofNat 32 (grid2.coords t 0).val).toNat * 256 + 1 * (y 0).val
        = (BitVec.ofNat 32 (grid2.coords t 0).val + 48#32).toNat * 256 + 1 * (y 0).val - 12288
      rw [BitVec.toNat_add, BitVec.toNat_ofNat, BitVec.toNat_ofNat]
      omega
    | 1 => rfl
  · blk_simp [Pipeline.Window.cell_apply]
    omega

end Cert.Proof.Run

end
-- ==== Proof.Row.lean ====
/- One row's loop of the SparseCore kernel: it fills row `r` of the output chunk with the signs of
   row `r` of the input chunk, sixteen elements a trip. -/
module

public import proofs.«01_k».proof.Proof.Setup

@[expose] public section

noncomputable section

namespace Cert.Proof.Run

open Cert.KernelIdeal Cert.KernelIdeal.Gen Cert.Proof.Words Cert.Proof.Blocks Cert.Proof.Values

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "inV" => (Memref.whole Cert.KernelIdeal.cc1_scratch0 : Memref Cert.KernelIdeal.sig Kind.scVector Space.vmem Cert.KernelIdeal.S8x4096 EltTy.f32)
local notation "outV" => (Memref.whole Cert.KernelIdeal.cc1_scratch1 : Memref Cert.KernelIdeal.sig Kind.scVector Space.vmem Cert.KernelIdeal.S8x4096 EltTy.f32)

abbrev cV (L : grid1.Coords) : Fin τ.nSC := (L 0).castLE hcore1
abbrev jV (L : grid1.Coords) : Fin τ.nSub := (L 1).castLE hsub1
/-- The vector subcore at grid point `L` of device `d`. -/
abbrev tV (d : Dev nD) (L : grid1.Coords) : Thread nD τ := V d (cV L) (jV L)

/-- The chunk whose first row is row `R` of the matrix: its elements' signs. -/
def chunk (R : ℕ) (x : S8x4096.Idx → F .f32) (y : S8x4096.Idx) : F .f32 := sign (lin (R + (y 0).val) (y 1).val) (x y)

/-- The elements a row's loop has written after `k` trips, with those of the rows before it. -/
def Done (r k : ℕ) (y : S8x4096.Idx) : Prop := (y 0).val < r ∨ (y 0).val = r ∧ (y 1).val < 16 * k

/-- Before the first row's first trip nothing is done. -/
theorem not_done_zero (y : S8x4096.Idx) : ¬ Done 0 0 y := by unfold Done; omega
/-- What is done before a row starts is done when the row before it ends. -/
theorem done_next (r : ℕ) (y : S8x4096.Idx) (h : Done (r + 1) 0 y) : Done r 256 y := by
  have := (y 1).isLt; simp at this; unfold Done at *; omega
/-- After the last row everything is done. -/
theorem done_all (y : S8x4096.Idx) : Done 7 256 y := by
  have := (y 1).isLt; have := (y 0).isLt; simp at *; unfold Done; omega

variable (d : Dev nD) (L : grid1.Coords)

/-- A row's loop invariant: the input chunk as fetched, the output chunk right wherever the loops so far have written. -/
def rowInv (R r : ℕ) (x : S8x4096.Idx → F .f32) (k : ℕ) (_ : BitVec 32) : sProp 𝕄 :=
  iprop(((inV).view.loc (tV d L) ↦{fullShare} x)
    ∗ ∃ f : S8x4096.Idx → F .f32, ⌜∀ y, Done r k y → f y = chunk R x y⌝ ∗ ((outV).view.loc (tV d L) ↦{fullShare} f))

/-- What a trip leaves in the output chunk: its sixteen elements' signs, the rest as it was. -/
theorem trip_value (R r : ℕ) (off : Fin k1_t2_loop.trips → Fin 2 → Nat) (hoff : ∀ t, ∀ a, off t a + S1x16.size a ≤ S8x4096.size a)
    (ho : ∀ t, off t = ![r, 16 * t.val]) (t : Fin k1_t2_loop.trips) (x f : S8x4096.Idx → F .f32)
    (hf : ∀ y, Done r t.val y → f y = chunk R x y) (y : S8x4096.Idx) (hy : Done r (t.val + 1) y) :
    (outV).view.writes (Elt F) f [⟨Rect.unit (s := S8x4096) (off t) S1x16.size (hoff t),
      shapeCast S1x16 (signV (idx1 (BitVec.ofNat 32 R) (BitVec.ofNat 32 r) t)
        (shapeCast S16 (((inV).access (Rect.unit (s := S8x4096) (off t) S1x16.size (hoff t))).read (Elt F) x) shapeCasts_S1x16_S16)) shapeCasts_S16_S1x16⟩] y
      = chunk R x y := by
  have hrd : ∀ g : S8x4096.Idx → F .f32, (outV).view.read (Elt F) g = g := fun g => View.read_whole _ _
  rw [← hrd ((outV).view.writes (Elt F) f _)]
  have o0 : off t 0 = r := by rw [ho]; rfl
  have o1 : off t 1 = 16 * t.val := by rw [ho]; rfl
  by_cases h : y ∈ (Rect.unit (s := S8x4096) (off t) S1x16.size (hoff t)).set
  · obtain ⟨u, rfl⟩ : ∃ u, (Rect.unit (s := S8x4096) (off t) S1x16.size (hoff t)).emb u = y := (Rect.unit (s := S8x4096) (off t) S1x16.size (hoff t)).exists_idx_of_mem h
    rw [View.read_writes_cons_emb]
    refine (row_apply R r t _ u).trans ?_
    have e0 : ((Rect.unit (s := S8x4096) (off t) S1x16.size (hoff t)).emb u 0).val = r := by
      have hu : (u 0).val < 1 := (u 0).isLt
      show off t 0 + 1 * (u 0).val = r
      omega
    have e1 : ((Rect.unit (s := S8x4096) (off t) S1x16.size (hoff t)).emb u 1).val = 16 * t.val + (u 1).val := by
      show off t 1 + 1 * (u 1).val = _
      omega
    unfold chunk
    rw [e0, e1]
    rfl
  · rw [View.read_writes_cons_miss _ _ _ _ _ h]
    refine (congrFun (hrd f) y).trans (hf y ?_)
    rcases hy with hy | ⟨h0, h1⟩
    · exact .inl hy
    · refine .inr ⟨h0, ?_⟩
      by_contra hc
      refine h (Rect.mem_set_unit.mpr fun a => ?_)
      match a with
      | 0 => exact ⟨by show off t 0 ≤ (y 0).val; omega, by show (y 0).val < off t 0 + 1; omega⟩
      | 1 => exact ⟨by show off t 1 ≤ (y 1).val; omega, by show (y 1).val < off t 1 + 16; omega⟩

/-- One trip, from the invariant at its index to the invariant at the next. -/
theorem trip (R r : ℕ) (off : Fin k1_t2_loop.trips → Fin 2 → Nat) (hoff : ∀ t, ∀ a, off t a + S1x16.size a ≤ S8x4096.size a)
    (ho : ∀ t, off t = ![r, 16 * t.val]) (x : S8x4096.Idx → F .f32) (t : Fin k1_t2_loop.trips) (acc : BitVec 32) :
    rowInv (F := F) d L R r x t.val acc
      ⊢ wp frame (wpE (defs₀ (F := F)) 𝒱₀ (tV d L) none) Set.univ
          (rowBody L inV outV (BitVec.ofNat 32 R) (BitVec.ofNat 32 r) off hoff t) (rowInv d L R r x (t.val + 1)) := by
  unfold rowInv rowBody
  iintro ⟨Hx, %f, %hf, Hf⟩
  sl_exec
  sl_step
  isplitl [Hx]; · iexact Hx
  iexists _
  isplitr
  swap; · iexact Hf
  ipureintro
  intro y hy
  exact trip_value R r off hoff ho t x f hf y hy

/-- A row's loop makes 256 trips. -/
theorem trips_row : k1_t2_loop.trips = 256 := by decide

/-- The whole of row `r`'s loop: from the rows before it written to the row written with them. -/
theorem row_loop (R r : ℕ) (off : Fin k1_t2_loop.trips → Fin 2 → Nat) (hoff : ∀ t, ∀ a, off t a + S1x16.size a ≤ S8x4096.size a)
    (ho : ∀ t, off t = ![r, 16 * t.val]) (x : S8x4096.Idx → F .f32)
    (body : Fin k1_t2_loop.trips → BitVec 32 → Prog (TpuEff nD τ sig (Elt F) Λ₀ (.scVector (cV L) (jV L))) (BitVec 32))
    (hbody : ∀ t acc, body t acc = rowBody L inV outV (BitVec.ofNat 32 R) (BitVec.ofNat 32 r) off hoff t)
    (hok : k1_t2_loop.OK) (init : BitVec 32) {β : Type} {kk : BitVec 32 → Prog (TpuEff nD τ sig (Elt F) Λ₀ (.scVector (cV L) (jV L))) β} {Q : β → sProp 𝕄} :
    rowInv (F := F) d L R r x 0 init
      ⊢ iprop((∀ acc, rowInv (F := F) d L R r x 256 acc -∗ wp frame (wpE (defs₀ (F := F)) 𝒱₀ (tV d L) none) Set.univ (kk acc) Q)
        -∗ wp frame (wpE (defs₀ (F := F)) 𝒱₀ (tV d L) none) Set.univ (Scf.Loop.for k1_t2_loop hok init body >>= kk) Q) := by
  have h := Scf.wp_for_bind frame (wpE (defs₀ (F := F)) 𝒱₀ (tV d L) none) Set.univ k1_t2_loop.lb k1_t2_loop.ub k1_t2_loop.st hok init body
    (rowInv (F := F) d L R r x) (fun t acc => by rw [hbody]; exact trip d L R r off hoff ho x t acc) (kk := kk) (Q := Q)
  rwa [show Scf.trips k1_t2_loop.lb k1_t2_loop.ub k1_t2_loop.st = 256 from trips_row] at h

/-- A row written, the next row's loop may start. -/
theorem rowInv_next (R r : ℕ) (x : S8x4096.Idx → F .f32) (a b : BitVec 32) :
    rowInv (F := F) d L R r x 256 a ⊢ rowInv (F := F) d L R (r + 1) x 0 b := by
  unfold rowInv
  iintro ⟨Hx, %f, %hf, Hf⟩
  isplitl [Hx]; · iexact Hx
  iexists f
  isplitr
  swap; · iexact Hf
  ipureintro
  exact fun y hy => hf y (done_next r y hy)

end Cert.Proof.Run

end
-- ==== Proof.Chunk.lean ====
/- One chunk of the SparseCore kernel: eight rows fetched, their signs written, the eight rows put
   into the result. -/
module

public import proofs.«01_k».proof.Proof.Row

@[expose] public section

noncomputable section

namespace Cert.Proof.Run

open Cert.KernelIdeal Cert.KernelIdeal.Gen Cert.Proof.Words Cert.Proof.Blocks Cert.Proof.Values

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S16384x4096 EltTy.f32)
local notation "bV" => (Memref.whole Cert.KernelIdeal.main_v1_scv : Memref Cert.KernelIdeal.sig Kind.scVector Space.hbm Cert.KernelIdeal.S4096x4096 EltTy.f32)
local notation "inV" => (Memref.whole Cert.KernelIdeal.cc1_scratch0 : Memref Cert.KernelIdeal.sig Kind.scVector Space.vmem Cert.KernelIdeal.S8x4096 EltTy.f32)
local notation "outV" => (Memref.whole Cert.KernelIdeal.cc1_scratch1 : Memref Cert.KernelIdeal.sig Kind.scVector Space.vmem Cert.KernelIdeal.S8x4096 EltTy.f32)

/-! ## The rows a tile reads and writes -/

/-- The rows of the matrix that tile `s` of SparseCore `c` reads. -/
def xRows (c s : ℕ) : Finset S16384x4096.Idx := Finset.univ.filter fun y => (y 0).val / 128 = 96 + 2 * s + c
/-- The rows of the SparseCores' result that it writes. -/
def bRows (c s : ℕ) : Finset S4096x4096.Idx := Finset.univ.filter fun y => (y 0).val / 128 = 2 * s + c

/-- The matrix's element that an element of the SparseCores' result is computed from. -/
def up (y : S4096x4096.Idx) : S16384x4096.Idx :=
  fun | 0 => ⟨12288 + (y 0).val, by have := (y 0).isLt; show _ < 16384; have h : (y 0).val < 4096 := this; omega⟩
      | 1 => ⟨(y 1).val, (y 1).isLt⟩
      | ⟨_ + 2, h⟩ => absurd h (Nat.not_lt.2 (Nat.le_add_left _ _))

/-- What the SparseCores' result holds in the end: the signs of the matrix's last 4096 rows. -/
def bOut (X : S16384x4096.Idx → F .f32) (y : S4096x4096.Idx) : F .f32 := out X (up y)

/-- What a tile whose first row is `base` has made of the result after `k` chunks. -/
def bAt (X : S16384x4096.Idx → F .f32) (b : S4096x4096.Idx → F .f32) (base k : ℕ) (y : S4096x4096.Idx) : F .f32 :=
  if (y 0).val < base + 8 * k then bOut X y else b y

abbrev base (L : grid1.Coords) : ℕ := 256 * (L 1).val + 128 * (L 0).val
/-- The first row of chunk `t`, in the matrix. -/
abbrev rowOf (L : grid1.Coords) (t : ℕ) : ℕ := 256 * (L 1).val + 128 * (L 0).val + 8 * t + 12288

variable (d : Dev nD) (L : grid1.Coords)

abbrev xRect (t : Fin k1_t1_loop.trips) : Rect S16384x4096 := Rect.unit (s := S16384x4096) (k1_off1 L t) S8x4096.size (k1_off1_inb L t)
abbrev bRect (t : Fin k1_t1_loop.trips) : Rect S4096x4096 := Rect.unit (s := S4096x4096) (k1_off10 L t) S8x4096.size (k1_off10_inb L t)
abbrev xSl (t : Fin k1_t1_loop.trips) : Memref sig .scVector .hbm S8x4096 .f32 := (xV).slice (xRect L t) (fun _ => rfl)
abbrev bSl (t : Fin k1_t1_loop.trips) : Memref sig .scVector .hbm S8x4096 .f32 := (bV).slice (bRect L t) (fun _ => rfl)

/-- A tile's loop makes sixteen trips, one for each chunk. -/
theorem trips_chunk : k1_t1_loop.trips = 16 := by decide
/-- A chunk's number is below sixteen. -/
theorem lt_chunk (t : Fin k1_t1_loop.trips) : t.val < 16 := lt_of_lt_of_eq t.isLt trips_chunk
/-- A grid point's SparseCore is one of two. -/
theorem lt_core (L : grid1.Coords) : (L 0).val < 2 := (L 0).isLt
/-- A grid point's tile is one of sixteen. -/
theorem lt_sub (L : grid1.Coords) : (L 1).val < 16 := (L 1).isLt

/-- The fetch's source covers the chunk's rectangle of the matrix. -/
theorem set_xSl (t : Fin k1_t1_loop.trips) : (xSl L t).view.set = (xRect L t).set := View.set_slice_whole _ _
/-- The write-out's destination covers the chunk's rectangle of the result. -/
theorem set_bSl (t : Fin k1_t1_loop.trips) : (bSl L t).view.set = (bRect L t).set := View.set_slice_whole _ _

/-- The fetch starts at the chunk's first row of the matrix, -/
theorem x0 (t : Fin k1_t1_loop.trips) : k1_off1 L t 0 = rowOf L t.val := by rw [k1_off1_eq]; rfl
/-- and at column 0. -/
theorem x1 (t : Fin k1_t1_loop.trips) : k1_off1 L t 1 = 0 := by rw [k1_off1_eq]; rfl
/-- The write-out starts at the chunk's first row of the result, -/
theorem b0 (t : Fin k1_t1_loop.trips) : k1_off10 L t 0 = base L + 8 * t.val := by rw [k1_off10_eq]; rfl
/-- and at column 0. -/
theorem b1 (t : Fin k1_t1_loop.trips) : k1_off10 L t 1 = 0 := by rw [k1_off10_eq]; rfl

/-- An element of the result is in the chunk's rectangle just where its row is one of the chunk's eight. -/
theorem mem_bRect (t : Fin k1_t1_loop.trips) (y : S4096x4096.Idx) :
    y ∈ (bRect L t).set ↔ base L + 8 * t.val ≤ (y 0).val ∧ (y 0).val < base L + 8 * t.val + 8 := by
  rw [Rect.mem_set_unit]
  constructor
  · intro h
    have h0 : k1_off10 L t 0 ≤ (y 0).val ∧ (y 0).val < k1_off10 L t 0 + 8 := h 0
    rwa [b0] at h0
  · intro h a
    match a with
    | 0 => show k1_off10 L t 0 ≤ (y 0).val ∧ (y 0).val < k1_off10 L t 0 + 8; rwa [b0]
    | 1 => exact ⟨by show k1_off10 L t 1 ≤ (y 1).val; rw [b1]; omega, by show (y 1).val < k1_off10 L t 1 + 4096; rw [b1]; have h : (y 1).val < 4096 := (y 1).isLt; omega⟩

/-- An element of the chunk's rectangle of the matrix is in one of its eight rows. -/
theorem mem_xRect (t : Fin k1_t1_loop.trips) (y : S16384x4096.Idx) (h : y ∈ (xRect L t).set) :
    rowOf L t.val ≤ (y 0).val ∧ (y 0).val < rowOf L t.val + 8 := by
  rw [Rect.mem_set_unit] at h
  have h0 : k1_off1 L t 0 ≤ (y 0).val ∧ (y 0).val < k1_off1 L t 0 + 8 := h 0
  rwa [x0] at h0

/-- The rows that a chunk fetches are among the tile's rows of the matrix. -/
theorem xSl_subset (t : Fin k1_t1_loop.trips) : (xSl L t).view.set ⊆ xRows (L 0).val (L 1).val := by
  intro y hy
  rw [set_xSl] at hy
  have h := mem_xRect L t y hy
  have := lt_chunk t; have := lt_core L
  refine Finset.mem_filter.mpr ⟨Finset.mem_univ _, ?_⟩
  unfold rowOf at h
  omega

/-- The rows that a chunk writes out are among the tile's rows of the result. -/
theorem bSl_subset (t : Fin k1_t1_loop.trips) : (bSl L t).view.set ⊆ bRows (L 0).val (L 1).val := by
  intro y hy
  rw [set_bSl, mem_bRect] at hy
  have := lt_chunk t; have := lt_core L
  refine Finset.mem_filter.mpr ⟨Finset.mem_univ _, ?_⟩
  unfold base at hy
  omega

/-- What chunk `t`'s fetch brings: the matrix's rows from `rowOf L t`. -/
def fetched (X : S16384x4096.Idx → F .f32) (t : Fin k1_t1_loop.trips) (y : S8x4096.Idx) : F .f32 := X ((xRect L t).emb y)

/-- What the fetch carries is the matrix's elements in the chunk's rows. -/
theorem read_xSl (X : S16384x4096.Idx → F .f32) (t : Fin k1_t1_loop.trips) : (xSl L t).view.read (Elt F) X = fetched L X t :=
  funext fun y => (View.read_apply _ _).trans (cast_eq _ _)

/-- The chunk's signs are the result's, at the rows the write-out puts them. -/
theorem chunk_fetched (X : S16384x4096.Idx → F .f32) (t : Fin k1_t1_loop.trips) (y : S8x4096.Idx) :
    chunk (rowOf L t.val) (fetched L X t) y = bOut X ((bRect L t).emb y) := by
  have e0 : ((bRect L t).emb y 0).val = base L + 8 * t.val + (y 0).val := by
    show k1_off10 L t 0 + 1 * (y 0).val = _; rw [b0]; omega
  have e1 : ((bRect L t).emb y 1).val = (y 1).val := by
    show k1_off10 L t 1 + 1 * (y 1).val = _; rw [b1]; omega
  have hx : (xRect L t).emb y = up ((bRect L t).emb y) := by
    funext a
    match a with
    | 0 => exact Fin.ext (show k1_off1 L t 0 + 1 * (y 0).val = 12288 + ((bRect L t).emb y 0).val by rw [x0, e0]; unfold rowOf base; omega)
    | 1 => exact Fin.ext (show k1_off1 L t 1 + 1 * (y 1).val = ((bRect L t).emb y 1).val by rw [x1, e1]; omega)
  unfold chunk fetched bOut out
  rw [hx]
  have u0 : (up ((bRect L t).emb y) 0).val = rowOf L t.val + (y 0).val := by
    show 12288 + ((bRect L t).emb y 0).val = _; rw [e0]; unfold rowOf base; omega
  have u1 : (up ((bRect L t).emb y) 1).val = (y 1).val := e1
  rw [u0, u1]

/-- The write-out puts the chunk's element `u` at the result's element of the chunk's rows. -/
theorem write_bSl (t : Fin k1_t1_loop.trips) (f : S4096x4096.Idx → F .f32) (w : S8x4096.Idx → F .f32) (u : S8x4096.Idx) :
    View.write (Elt F) (bSl L t).view f w Finset.univ ((bSl L t).view.emb u) = w u :=
  (View.write_emb_of_mem (v := (bSl L t).view) (Val := Elt F) f w (Finset.mem_univ u)).trans (cast_eq _ _)

/-- A row below those done holds what the result holds in the end. -/
theorem bAt_done (X : S16384x4096.Idx → F .f32) (b : S4096x4096.Idx → F .f32) (n k : ℕ) (y : S4096x4096.Idx) (h : (y 0).val < n + 8 * k) :
    bAt X b n k y = bOut X y := if_pos h

/-- The result after chunk `t`'s write-out, on the rows written; -/
theorem written (X : S16384x4096.Idx → F .f32) (b f : S4096x4096.Idx → F .f32) (t : Fin k1_t1_loop.trips)
    (y : S4096x4096.Idx) (hy : y ∈ (bSl L t).view.set) :
    View.write (Elt F) (bSl L t).view f (chunk (rowOf L t.val) (fetched L X t)) Finset.univ y = bAt X b (base L) (t.val + 1) y := by
  have hm : y ∈ (bRect L t).set := set_bSl L t ▸ hy
  have h := (mem_bRect L t y).mp hm
  rw [bAt_done X b _ _ y (by omega)]
  obtain ⟨u, -, rfl⟩ := Finset.mem_map.mp hy
  rw [write_bSl]
  exact chunk_fetched L X t u

/-- and on the tile's other rows. -/
theorem unwritten (X : S16384x4096.Idx → F .f32) (b : S4096x4096.Idx → F .f32) (t : Fin k1_t1_loop.trips)
    (y : S4096x4096.Idx) (hy : y ∈ bRows (L 0).val (L 1).val \ (bSl L t).view.set) :
    bAt X b (base L) t.val y = bAt X b (base L) (t.val + 1) y := by
  rw [Finset.mem_sdiff, set_bSl, mem_bRect] at hy
  unfold bAt
  by_cases h : (y 0).val < base L + 8 * t.val
  · rw [if_pos h, if_pos (by omega)]
  · rw [if_neg h, if_neg (by omega)]

/-- The chunk's first row as the kernel computes it. -/
theorem row_word (t : Fin k1_t1_loop.trips) :
    Scalar.addi (Scalar.addi 12288#32 (Scalar.muli (Scalar.addi (Scalar.muli (BitVec.ofNat 32 (L 1).val) 2#32) (BitVec.ofNat 32 (L 0).val)) 128#32))
      (Scalar.muli (Scf.iv 0#32 1#32 t) 8#32) = BitVec.ofNat 32 (rowOf L t.val) := by
  have h : 256 * (L 1).val + 128 * (L 0).val + 8 * t.val + 12288 = 12288 + ((L 1).val * 2 + (L 0).val) * 128 + t.val * 8 := by omega
  simp only [rowOf, h, BitVec.ofNat_add, BitVec.ofNat_mul, Scalar.addi, Scalar.muli, IntOp.addi, IntOp.muli, Scf.iv]
  simp

end Cert.Proof.Run

end
-- ==== Proof.Tile.lean ====
/- A tile's task of the SparseCore call: sixteen chunks, each fetched, computed row by row and put
   into the result. -/
module

public import proofs.«01_k».proof.Proof.Chunk

@[expose] public section

noncomputable section

namespace Cert.Proof.Run

open Cert.KernelIdeal Cert.KernelIdeal.Gen Cert.Proof.Words Cert.Proof.Blocks Cert.Proof.Values

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S16384x4096 EltTy.f32)
local notation "bV" => (Memref.whole Cert.KernelIdeal.main_v1_scv : Memref Cert.KernelIdeal.sig Kind.scVector Space.hbm Cert.KernelIdeal.S4096x4096 EltTy.f32)
local notation "inV" => (Memref.whole Cert.KernelIdeal.cc1_scratch0 : Memref Cert.KernelIdeal.sig Kind.scVector Space.vmem Cert.KernelIdeal.S8x4096 EltTy.f32)
local notation "outV" => (Memref.whole Cert.KernelIdeal.cc1_scratch1 : Memref Cert.KernelIdeal.sig Kind.scVector Space.vmem Cert.KernelIdeal.S8x4096 EltTy.f32)

/-- Tile `s` of SparseCore `c`'s rows of the matrix, at `X`, and of the result, at `b`. -/
abbrev tilePts (d : Dev nD) (c s : ℕ) (X : S16384x4096.Idx → F .f32) (b : S4096x4096.Idx → F .f32) : sProp 𝕄 :=
  iprop((xLoc d ↦[xRows c s]{fullShare} X) ∗ (bLoc d ↦[bRows c s]{fullShare} b))

variable (d : Dev nD) (L : grid1.Coords)

/-- The counter of a tile's fetches, and the counter of its write-outs. -/
abbrev inCell : GSem nD τ sig := (tV d L, .dma cc1_scoped0.sem)
abbrev outCell : GSem nD τ sig := (tV d L, .dma cc1_scoped1.sem)

/-- The chunk loop's invariant: the tile's rows of the matrix, its rows of the result as the chunks so far have made them,
    the two scratch buffers, the two counters at zero, and the waits recorded. -/
def chunkInv (X : S16384x4096.Idx → F .f32) (b : S4096x4096.Idx → F .f32) (O : CellTallies nD τ sig (HIx 1)) (W : Waits sig (HIx 1))
    (k : ℕ) (_ : BitVec 32) : sProp 𝕄 :=
  iprop(Transfers.MayWaits (tV d L) (none : HIx 1) O
    ∗ ((xV).view.loc (tV d L) ↦[xRows (L 0).val (L 1).val]{fullShare} X)
    ∗ ((bV).view.loc (tV d L) ↦[bRows (L 0).val (L 1).val]{fullShare} bAt X b (base L) k)
    ∗ (∃ f : S8x4096.Idx → F .f32, (inV).view.loc (tV d L) ↦{fullShare} f)
    ∗ (∃ f : S8x4096.Idx → F .f32, (outV).view.loc (tV d L) ↦{fullShare} f)
    ∗ semVal (inCell d L) 0 ∗ semVal (outCell d L) 0
    ∗ ∃ W', ⌜∀ p ∈ W', p ∈ W ∨ p.2 = none⌝ ∗ owes (tV d L) O W')

/-- The chunk loop's body as the kernel calls it at grid point `L`. -/
abbrev body1 (v3 : BitVec 32) := k1_t1_body (F := F) L xV (Memref.isWhole_whole _) bV (Memref.isWhole_whole _) inV (Memref.isWhole_whole _)
  outV (Memref.isWhole_whole _) cc1_scoped0 cc1_scoped1 v3

abbrev v3 : BitVec 32 :=
  Scalar.addi 12288#32 (Scalar.muli (Scalar.addi (Scalar.muli (BitVec.ofNat 32 (L 1).val) 2#32) (BitVec.ofNat 32 (L 0).val)) 128#32)

/-- The tile's rows of the matrix other than chunk `t`'s, and its rows of the result other than chunk `t`'s. -/
def xRest (t : Fin k1_t1_loop.trips) (X : S16384x4096.Idx → F .f32) : sProp 𝕄 :=
  (xV).view.loc (tV d L) ↦[xRows (L 0).val (L 1).val \ (xSl L t).view.set]{fullShare} X
def bRest (t : Fin k1_t1_loop.trips) (f : S4096x4096.Idx → F .f32) : sProp 𝕄 :=
  (bV).view.loc (tV d L) ↦[bRows (L 0).val (L 1).val \ (bSl L t).view.set]{fullShare} f

/-- A chunk's rows, as its copies address them, cut out of the tile's rows. -/
theorem cut_x (t : Fin k1_t1_loop.trips) (X : S16384x4096.Idx → F .f32) :
    ((xV).view.loc (tV d L) ↦[xRows (L 0).val (L 1).val]{fullShare} X : sProp 𝕄)
      ⊣⊢ iprop(((xSl L t).view.loc (tV d L) ↦[(xSl L t).view.set]{fullShare} X) ∗ xRest d L t X) :=
  pointsTo_split_subset (xSl_subset L t)
/-- The same of the result's rows. -/
theorem cut_b (t : Fin k1_t1_loop.trips) (f : S4096x4096.Idx → F .f32) :
    ((bV).view.loc (tV d L) ↦[bRows (L 0).val (L 1).val]{fullShare} f : sProp 𝕄)
      ⊣⊢ iprop(((bSl L t).view.loc (tV d L) ↦[(bSl L t).view.set]{fullShare} f) ∗ bRest d L t f) :=
  pointsTo_split_subset (bSl_subset L t)

/-- The fetch landed, the first row's loop may start. -/
theorem rowInv_start (R : ℕ) (x fi fo : S8x4096.Idx → F .f32) (a : BitVec 32) :
    iprop(((inV).view.loc (tV d L) ↦{fullShare} View.write (Elt F) (inV).view fi x Finset.univ) ∗ ((outV).view.loc (tV d L) ↦{fullShare} fo))
      ⊢ rowInv (F := F) d L R 0 x 0 a := by
  unfold rowInv
  rw [show View.write (Elt F) (inV).view fi x Finset.univ = x from View.write_whole_univ _ _ _]
  iintro ⟨Hi, Ho⟩
  isplitl [Hi]; · iexact Hi
  iexists fo
  isplitr
  swap; · iexact Ho
  ipureintro
  exact fun y hy => absurd hy (not_done_zero y)

/-- After the last row's loop the output chunk is the chunk's signs. -/
theorem rowInv_end (R : ℕ) (x : S8x4096.Idx → F .f32) (a : BitVec 32) :
    rowInv (F := F) d L R 7 x 256 a
      ⊢ iprop(((inV).view.loc (tV d L) ↦{fullShare} x) ∗ ((outV).view.loc (tV d L) ↦{fullShare} chunk R x)) := by
  unfold rowInv
  iintro ⟨Hi, %f, %hf, Ho⟩
  obtain rfl : f = chunk R x := funext fun y => hf y (done_all y)
  isplitl [Hi] <;> iassumption

/-- What the write-out carries is the output chunk. -/
theorem sent (f : S8x4096.Idx → F .f32) : ReadAs.same.apply (View.read (Elt F) (outV).view f) = f := View.read_whole _ _

/-- Reading the chunk's rows of the result gives the result's elements there. -/
theorem read_bSl (t : Fin k1_t1_loop.trips) (g : S4096x4096.Idx → F .f32) (u : S8x4096.Idx) :
    (bSl L t).view.read (Elt F) g u = g ((bSl L t).view.emb u) := (View.read_apply _ _).trans (cast_eq _ _)

/-- The landed write-out holds the chunk's element `u` at the result's element of the chunk's rows. -/
theorem writes_bSl (t : Fin k1_t1_loop.trips) (f : S4096x4096.Idx → F .f32) (w : S8x4096.Idx → F .f32) (u : S8x4096.Idx) :
    (bSl L t).view.writes (Elt F) f [⟨Rect.whole S8x4096, w⟩] ((bSl L t).view.emb u) = w u := by
  refine (read_bSl L t _ u).symm.trans ?_
  exact View.read_writes_cons_hit (bSl L t).view (Val := Elt F) f (Rect.whole S8x4096) w [] u u (Rect.emb_whole_apply _ _)

/-- The rows written out are the result's after one chunk more; -/
theorem wrote (X : S16384x4096.Idx → F .f32) (b : S4096x4096.Idx → F .f32) (t : Fin k1_t1_loop.trips) (f : S4096x4096.Idx → F .f32)
    (w : S8x4096.Idx → F .f32) (hw : w = chunk (rowOf L t.val) (fetched L X t)) :
    ((bSl L t).view.loc (tV d L) ↦[(bSl L t).view.set]{fullShare} (bSl L t).view.writes (Elt F) f [⟨Rect.whole S8x4096, w⟩] : sProp 𝕄)
      = (bSl L t).view.loc (tV d L) ↦[(bSl L t).view.set]{fullShare} bAt X b (base L) (t.val + 1) := by
  refine pointsTo_congr fun y hy => ?_
  have h2 := written L X b f t y hy
  obtain ⟨u, -, rfl⟩ := Finset.mem_map.mp hy
  rw [write_bSl] at h2
  rw [writes_bSl, hw]
  exact h2
/-- and so are the tile's other rows. -/
theorem kept (X : S16384x4096.Idx → F .f32) (b : S4096x4096.Idx → F .f32) (t : Fin k1_t1_loop.trips) :
    (bRest d L t (bAt X b (base L) t.val) : sProp 𝕄) = bRest d L t (bAt X b (base L) (t.val + 1)) :=
  pointsTo_congr fun y hy => unwritten L X b t y hy

set_option maxHeartbeats 4000000 in
/-- One chunk. -/
theorem chunk_trip (X : S16384x4096.Idx → F .f32) (b : S4096x4096.Idx → F .f32) (O : CellTallies nD τ sig (HIx 1)) (W : Waits sig (HIx 1))
    (t : Fin k1_t1_loop.trips) (acc : BitVec 32) :
    chunkInv (F := F) d L X b O W t.val acc
      ⊢ wp frame (wpE (defs₀ (F := F)) 𝒱₀ (tV d L) none) Set.univ (body1 L (v3 L) t acc) (chunkInv d L X b O W (t.val + 1)) := by
  unfold body1 k1_t1_body
  rw [k1_part33_eq_skeleton]; unfold k1_part33_skel
  unfold chunkInv
  iintro ⟨Hmw, Hx, Hb, ⟨%fi, Hi⟩, ⟨%fo, Ho⟩, Hs0, Hs1, %W', %hW', HO⟩
  ihave Hx' := (cut_x d L t X).1 $$ Hx
  icases Hx' with ⟨Hx, Hxr⟩
  sl_exec (disch := exact View.amount_pos _ _ (show 0 < S8x4096.numel by decide))
  rw [wp_bind]
  ihave HR := (rowInv_start d L (rowOf L t.val) (fetched L X t) fi fo 0#32) $$ [Hi Ho]
  · isplitl [Hi]; · iexact Hi
    iexact Ho
  iapply (row_loop d L (rowOf L t.val) 0 k1_off2 k1_off2_inb k1_off2_eq (fetched L X t) _
    (fun t' acc => (row0 L xV _ bV _ inV _ outV _ cc1_scoped0 cc1_scoped1 _ t _ t' acc).trans
      (congrArg (fun v => rowBody L inV outV v 0#32 k1_off2 k1_off2_inb t') (row_word L t))) _ _) $$ HR
  iintro %_ HR
  ihave HR := (rowInv_next (F := F) d L _ _ _ _ 0#32) $$ HR
  iapply (row_loop d L (rowOf L t.val) 1 k1_off3 k1_off3_inb k1_off3_eq (fetched L X t) _
    (fun t' acc => (row1 L xV _ bV _ inV _ outV _ cc1_scoped0 cc1_scoped1 _ t _ t' acc).trans
      (congrArg (fun v => rowBody L inV outV v 1#32 k1_off3 k1_off3_inb t') (row_word L t))) _ _) $$ HR
  iintro %_ HR
  ihave HR := (rowInv_next (F := F) d L _ _ _ _ 0#32) $$ HR
  iapply (row_loop d L (rowOf L t.val) 2 k1_off4 k1_off4_inb k1_off4_eq (fetched L X t) _
    (fun t' acc => (row2 L xV _ bV _ inV _ outV _ cc1_scoped0 cc1_scoped1 _ t _ t' acc).trans
      (congrArg (fun v => rowBody L inV outV v 2#32 k1_off4 k1_off4_inb t') (row_word L t))) _ _) $$ HR
  iintro %_ HR
  ihave HR := (rowInv_next (F := F) d L _ _ _ _ 0#32) $$ HR
  iapply (row_loop d L (rowOf L t.val) 3 k1_off5 k1_off5_inb k1_off5_eq (fetched L X t) _
    (fun t' acc => (row3 L xV _ bV _ inV _ outV _ cc1_scoped0 cc1_scoped1 _ t _ t' acc).trans
      (congrArg (fun v => rowBody L inV outV v 3#32 k1_off5 k1_off5_inb t') (row_word L t))) _ _) $$ HR
  iintro %_ HR
  ihave HR := (rowInv_next (F := F) d L _ _ _ _ 0#32) $$ HR
  iapply (row_loop d L (rowOf L t.val) 4 k1_off6 k1_off6_inb k1_off6_eq (fetched L X t) _
    (fun t' acc => (row4 L xV _ bV _ inV _ outV _ cc1_scoped0 cc1_scoped1 _ t _ t' acc).trans
      (congrArg (fun v => rowBody L inV outV v 4#32 k1_off6 k1_off6_inb t') (row_word L t))) _ _) $$ HR
  iintro %_ HR
  ihave HR := (rowInv_next (F := F) d L _ _ _ _ 0#32) $$ HR
  iapply (row_loop d L (rowOf L t.val) 5 k1_off7 k1_off7_inb k1_off7_eq (fetched L X t) _
    (fun t' acc => (row5 L xV _ bV _ inV _ outV _ cc1_scoped0 cc1_scoped1 _ t _ t' acc).trans
      (congrArg (fun v => rowBody L inV outV v 5#32 k1_off7 k1_off7_inb t') (row_word L t))) _ _) $$ HR
  iintro %_ HR
  rw [wp_pure]
  imodintro
  ihave HR := (rowInv_next (F := F) d L _ _ _ _ 0#32) $$ HR
  iapply (row_loop d L (rowOf L t.val) 6 k1_off8 k1_off8_inb k1_off8_eq (fetched L X t) _
    (fun t' acc => (row6 L xV _ bV _ inV _ outV _ cc1_scoped0 cc1_scoped1 _ t' acc).trans
      (congrArg (fun v => rowBody L inV outV v 6#32 k1_off8 k1_off8_inb t') (row_word L t))) _ _) $$ HR
  iintro %_ HR
  ihave HR := (rowInv_next (F := F) d L _ _ _ _ 0#32) $$ HR
  iapply (row_loop d L (rowOf L t.val) 7 k1_off9 k1_off9_inb k1_off9_eq (fetched L X t) _
    (fun t' acc => (row7 L xV _ bV _ inV _ outV _ cc1_scoped0 cc1_scoped1 _ t' acc).trans
      (congrArg (fun v => rowBody L inV outV v 7#32 k1_off9 k1_off9_inb t') (row_word L t))) _ _) $$ HR
  iintro %_ HR
  ihave HR' := (rowInv_end d L _ _ _) $$ HR
  icases HR' with ⟨Hi, Ho⟩
  ihave Hb' := (cut_b d L t (bAt X b (base L) t.val)).1 $$ Hb
  icases Hb' with ⟨Hb, Hbr⟩
  sl_exec (disch := exact View.amount_pos _ _ (show 0 < S8x4096.numel by decide))
  sl_step
  isplitl [Hmw]; · iexact Hmw
  isplitl [Hx Hxr]
  · iapply (cut_x d L t X).2
    isplitl [Hx] <;> iassumption
  isplitl [Hb Hbr]
  · iapply (cut_b d L t _).2
    isplitl [Hb]
    · iapply (Entails.of_eq (wrote d L X b t (bAt X b (base L) t.val) (chunk_trip.sl.dma0_1 L X t) (by unfold chunk_trip.sl.dma0_1; exact sent _))); iexact Hb
    · iapply (Entails.of_eq (kept d L X b t)); iexact Hbr
  isplitl [Hi]; · iexists _; iexact Hi
  isplitl [Ho]; · iexists _; iexact Ho
  isplitl [Hs0]; · iexact Hs0
  isplitl [Hs1]; · iexact Hs1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The sixteen chunks. -/
theorem chunk_loop (X : S16384x4096.Idx → F .f32) (b : S4096x4096.Idx → F .f32) (O : CellTallies nD τ sig (HIx 1)) (W : Waits sig (HIx 1))
    {β : Type} {kk : BitVec 32 → Prog (TpuEff nD τ sig (Elt F) Λ₀ (.scVector (cV L) (jV L))) β} {Q : β → sProp 𝕄} :
    chunkInv (F := F) d L X b O W 0 0#32
      ⊢ iprop((∀ acc, chunkInv (F := F) d L X b O W 16 acc -∗ wp frame (wpE (defs₀ (F := F)) 𝒱₀ (tV d L) none) Set.univ (kk acc) Q)
        -∗ wp frame (wpE (defs₀ (F := F)) 𝒱₀ (tV d L) none) Set.univ (Scf.Loop.for k1_t1_loop k1_t1_ok 0#32 (body1 L (v3 L)) >>= kk) Q) := by
  have h := Scf.wp_for_bind frame (wpE (defs₀ (F := F)) 𝒱₀ (tV d L) none) Set.univ k1_t1_loop.lb k1_t1_loop.ub k1_t1_loop.st k1_t1_ok 0#32
    (body1 L (v3 L)) (chunkInv d L X b O W) (fun t acc => chunk_trip d L X b O W t acc) (kk := kk) (Q := Q)
  rwa [show Scf.trips k1_t1_loop.lb k1_t1_loop.ub k1_t1_loop.st = 16 from trips_chunk] at h

/-! ## The scratch buffers and counters among the subcore's own -/

omit [FloatOps F] in
theorem ownSems0_V :
    (SparseCore.Cfg.ownSems0 (tV d L) : sProp 𝕄)
      = iprop(semVal (inCell d L) 0 ∗ semVal (outCell d L) 0
          ∗ bigSep (((SparseCore.Cfg.ownCells (tV d L)).erase (inCell d L)).erase (outCell d L)) fun g => semVal g 0) := by
  unfold SparseCore.Cfg.ownSems0
  rw [SparseCore.bigSep_erase' ((SparseCore.Cfg.mem_ownCells (g := inCell d L)).mpr ⟨rfl, by
      show (SemLoc.dma cc1_scoped0.sem : SemLoc sig).isScoped .scVector = true; decide⟩),
    SparseCore.bigSep_erase' (Finset.mem_erase.mpr ⟨by simp [inCell, outCell]; decide, (SparseCore.Cfg.mem_ownCells (g := outCell d L)).mpr ⟨rfl, by
      show (SemLoc.dma cc1_scoped1.sem : SemLoc sig).isScoped .scVector = true; decide⟩⟩)]

omit [FloatOps F] in
theorem ownBufs_V :
    (SparseCore.Cfg.ownBufs (tV d L) : sProp 𝕄)
      = iprop((∃ f : S8x4096.Idx → F .f32, (inV).view.loc (tV d L) ↦{fullShare} f) ∗ (∃ f : S8x4096.Idx → F .f32, (outV).view.loc (tV d L) ↦{fullShare} f)
          ∗ bigSep (((SparseCore.Cfg.ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]
  rfl

/-- Before the first chunk the result is as it was; -/
theorem bAt_zero (X : S16384x4096.Idx → F .f32) (b : S4096x4096.Idx → F .f32) :
    (bLoc d ↦[bRows (L 0).val (L 1).val]{fullShare} b : sProp 𝕄)
      = (bV).view.loc (tV d L) ↦[bRows (L 0).val (L 1).val]{fullShare} bAt X b (base L) 0 :=
  pointsTo_congr (ℓ := bLoc d) fun y hy => by
    have h := (Finset.mem_filter.mp hy).2
    have := lt_core L
    exact (if_neg (show ¬ (y 0).val < base L + 8 * 0 by unfold base; omega)).symm
/-- after the last the tile's rows are done. -/
theorem bAt_last (X : S16384x4096.Idx → F .f32) (b : S4096x4096.Idx → F .f32) :
    ((bV).view.loc (tV d L) ↦[bRows (L 0).val (L 1).val]{fullShare} bAt X b (base L) 16 : sProp 𝕄)
      = bLoc d ↦[bRows (L 0).val (L 1).val]{fullShare} bOut X :=
  pointsTo_congr (ℓ := bLoc d) fun y hy => by
    have h := (Finset.mem_filter.mp hy).2
    have := lt_core L
    exact bAt_done X b _ _ y (by unfold base; omega)

/-- The tile's rows of the matrix, at the array or at the tile's reference of it. -/
theorem pts_x (X : S16384x4096.Idx → F .f32) :
    (xLoc d ↦[xRows (L 0).val (L 1).val]{fullShare} X : sProp 𝕄) = (xV).view.loc (tV d L) ↦[xRows (L 0).val (L 1).val]{fullShare} X := rfl

/-- The whole task: from the tile's rows of the matrix and of the result to the result's rows done. -/
theorem tile_body (hF : (K (F := F)).Facts) (X : S16384x4096.Idx → F .f32) (b : S4096x4096.Idx → F .f32)
    (O : CellTallies nD τ sig (HIx 1)) (W : Waits sig (HIx 1)) (hO : ∀ g, O g none = 0) :
    iprop(levAts (K (F := F)).L (K (F := F)).lev ∗ emp
        ∗ tilePts d (L 0).val (L 1).val X b
        ∗ scopedBufs (tV d L) ∗ scopedSems0 (tV d L) ∗ owes (tV d L) O W)
      ⊢ wp frame (wpE (defs₀ (F := F)) 𝒱₀ (tV d L) none) Set.univ
          (cc1__sc_kernel L xV (Memref.isWhole_whole _) bV (Memref.isWhole_whole _) inV (Memref.isWhole_whole _) outV (Memref.isWhole_whole _)
            cc1_scoped0 cc1_scoped1)
          fun _ => iprop(tilePts d (L 0).val (L 1).val X (bOut X)
            ∗ scopedBufs (tV d L) ∗ scopedSems0 (tV d L)
            ∗ ∃ W', ⌜∀ p ∈ W', p ∈ W ∨ p.2 = none⌝ ∗ owes (tV d L) O W') := by
  rw [show cc1__sc_kernel (F := F) L xV (Memref.isWhole_whole _) bV (Memref.isWhole_whole _) inV (Memref.isWhole_whole _) outV (Memref.isWhole_whole _)
      cc1_scoped0 cc1_scoped1 = (Scf.Loop.for k1_t1_loop k1_t1_ok 0#32 (body1 L (v3 L)) >>= fun _ => pure ⟨⟩) from rfl]
  rw [(K (F := F)).scopedBufs_V hF d (cV L) (jV L), SparseCore.Cfg.scopedSems0_V (Val := Elt F) d (cV L) (jV L), ownSems0_V, ownBufs_V]
  unfold tilePts
  iintro ⟨#Hlv, -, ⟨Hx, Hb⟩, ⟨Hi, Ho, Hbufs⟩, ⟨Hs0, Hs1, Hsems⟩, HO⟩
  ihave Hx := (Entails.of_eq (pts_x d L X)) $$ Hx
  ihave Hb := (Entails.of_eq (bAt_zero d L X b)) $$ Hb
  ihave Hmw := (show levAts (K (F := F)).L (K (F := F)).lev ⊢ Transfers.MayWaits (tV d L) (none : HIx 1) O from
    (K (F := F)).mayWaits_none (thr := tV d L) hO) $$ Hlv
  iapply (chunk_loop d L X b O W) $$ [Hmw Hx Hb Hi Ho Hs0 Hs1 HO]
  · unfold chunkInv
    isplitl [Hmw]; · iexact Hmw
    isplitl [Hx]; · iexact Hx
    isplitl [Hb]; · iexact Hb
    isplitl [Hi]; · iexact Hi
    isplitl [Ho]; · iexact Ho
    isplitl [Hs0]; · iexact Hs0
    isplitl [Hs1]; · iexact Hs1
    iexists W; isplitr
    · ipureintro; exact fun p hp => .inl hp
    · iexact HO
  iintro %_ HI
  unfold chunkInv
  icases HI with ⟨-, Hx, Hb, Hi, Ho, Hs0, Hs1, HO⟩
  rw [wp_pure]
  ihave Hx := (Entails.of_eq (pts_x d L X).symm) $$ Hx
  ihave Hb := (Entails.of_eq (bAt_last d L X b)) $$ Hb
  imodintro
  isplitl [Hx Hb]; · isplitl [Hx] <;> iassumption
  isplitl [Hi Ho Hbufs]
  · isplitl [Hi]; · iexact Hi
    isplitl [Ho]; · iexact Ho
    iexact Hbufs
  isplitl [Hs0 Hs1 Hsems]
  · isplitl [Hs0]; · iexact Hs0
    isplitl [Hs1]; · iexact Hs1
    iexact Hsems
  iexact HO

end Cert.Proof.Run

end
-- ==== Proof.Deal.lean ====
/- What the SparseCore call's handshakes carry: each tile its rows of the matrix and of the result,
   brought back with the result's rows done. -/
module

public import proofs.«01_k».proof.Proof.Tile

@[expose] public section

noncomputable section

namespace Cert.Proof.Run

open Cert.KernelIdeal Cert.KernelIdeal.Gen Cert.Proof.Words Cert.Proof.Blocks Cert.Proof.Values

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S16384x4096 EltTy.f32)
local notation "bV" => (Memref.whole Cert.KernelIdeal.main_v1_scv : Memref Cert.KernelIdeal.sig Kind.scVector Space.hbm Cert.KernelIdeal.S4096x4096 EltTy.f32)
local notation "inV" => (Memref.whole Cert.KernelIdeal.cc1_scratch0 : Memref Cert.KernelIdeal.sig Kind.scVector Space.vmem Cert.KernelIdeal.S8x4096 EltTy.f32)
local notation "outV" => (Memref.whole Cert.KernelIdeal.cc1_scratch1 : Memref Cert.KernelIdeal.sig Kind.scVector Space.vmem Cert.KernelIdeal.S8x4096 EltTy.f32)

variable (m : (ℓ : Loc nD τ sig) → Buf (Elt F) ℓ) (ρ : Dev nD → PrngReg)

/-- The matrix device `d` starts with. -/
abbrev mat (d : Dev nD) : S16384x4096.Idx → F .f32 := m (xLoc d)

/-- The rows of SparseCore `c`'s sixteen tiles together. -/
def xCore (c : ℕ) : Finset S16384x4096.Idx := Finset.univ.biUnion fun s : Fin 16 => xRows c s.val
def bCore (c : ℕ) : Finset S4096x4096.Idx := Finset.univ.biUnion fun s : Fin 16 => bRows c s.val

/-- SparseCore `c`'s rows of the matrix, at `X`, and of the result, at `b`. -/
abbrev corePts (d : Dev nD) (c : ℕ) (X : S16384x4096.Idx → F .f32) (b : S4096x4096.Idx → F .f32) : sProp 𝕄 :=
  iprop((xLoc d ↦[xCore c]{fullShare} X) ∗ (bLoc d ↦[bCore c]{fullShare} b))

/-- Two tiles of a SparseCore read different rows of the matrix, -/
theorem xRows_disjoint (c : ℕ) : ∀ i ∈ (Finset.univ : Finset (Fin 16)), ∀ j ∈ (Finset.univ : Finset (Fin 16)), i ≠ j → Disjoint (xRows c i.val) (xRows c j.val) := by
  intro i _ j _ h
  refine Finset.disjoint_left.mpr fun y hi hj => h (Fin.ext ?_)
  have h1 := (Finset.mem_filter.mp hi).2; have h2 := (Finset.mem_filter.mp hj).2
  omega
/-- and write different rows of the result. -/
theorem bRows_disjoint (c : ℕ) : ∀ i ∈ (Finset.univ : Finset (Fin 16)), ∀ j ∈ (Finset.univ : Finset (Fin 16)), i ≠ j → Disjoint (bRows c i.val) (bRows c j.val) := by
  intro i _ j _ h
  refine Finset.disjoint_left.mpr fun y hi hj => h (Fin.ext ?_)
  have h1 := (Finset.mem_filter.mp hi).2; have h2 := (Finset.mem_filter.mp hj).2
  omega

/-- A SparseCore's rows are its tiles' rows. -/
theorem corePts_tiles (d : Dev nD) (c : ℕ) (X : S16384x4096.Idx → F .f32) (b : S4096x4096.Idx → F .f32) :
    corePts (F := F) d c X b = bigSep Finset.univ fun s : Fin 16 => tilePts d c s.val X b := by
  unfold corePts tilePts xCore bCore
  rw [bigSep_sep', ← pointsTo_biUnion Finset.univ (ℓ := xLoc d) (fun s : Fin 16 => xRows c s.val) (xRows_disjoint c),
    ← pointsTo_biUnion Finset.univ (ℓ := bLoc d) (fun s : Fin 16 => bRows c s.val) (bRows_disjoint c)]

/-- The one call: each SparseCore its rows, each tile its rows, brought back with the result's done. -/
def P : (K (F := F)).Pay (nD := nD) (Val := Elt F) (Name := ℕ) (U := UU) where
  st := fun q d c => match q with | 0 => corePts d c.val (mat m d) (m (bLoc d))
  dn := fun q d c => match q with | 0 => corePts d c.val (mat m d) (bOut (mat m d))
  go := fun q d c i => match q with | 0 => tilePts d c.val (Fin.cast nSub_zero i).val (mat m d) (m (bLoc d))
  td := fun q d c i => match q with | 0 => tilePts d c.val (Fin.cast nSub_zero i).val (mat m d) (bOut (mat m d))
  x := fun _ _ => iprop(emp)

instance P_storable : (P (F := F) m).IsStorable where
  st q d c := match q with
    | 0 => (inferInstance : BI.Storable (upEmb : UEmb _ 𝕄) (corePts d c.val (mat m d) (m (bLoc d))))
  dn q d c := match q with
    | 0 => (inferInstance : BI.Storable (upEmb : UEmb _ 𝕄) (corePts d c.val (mat m d) (bOut (mat m d))))
  go q d c i := match q with
    | 0 => (inferInstance : BI.Storable (upEmb : UEmb _ 𝕄) (tilePts d c.val (Fin.cast nSub_zero i).val (mat m d) (m (bLoc d))))
  td q d c i := match q with
    | 0 => (inferInstance : BI.Storable (upEmb : UEmb _ 𝕄) (tilePts d c.val (Fin.cast nSub_zero i).val (mat m d) (bOut (mat m d))))

/-! ## The task's obligation -/

def coordsV (c : Fin (grid1.bound 0)) (s : Fin (grid1.bound 1)) : grid1.Coords :=
  fun | 0 => c | 1 => s | ⟨_ + 2, h⟩ => absurd h (Nat.not_lt.2 (Nat.le_add_left _ _))

/-- The body that a tile runs is the kernel's function at the tile's grid point. -/
theorem defs₀_vector (c : Fin τ.nSC) (s : Fin τ.nSub) :
    defs₀ (F := F) (.scVector c s) 1 ()
      = SparseCore.onTile hcore1 hsub1 (fun c s => cc1__sc_kernel (coordsV c s)
          xV (Memref.isWhole_whole _) bV (Memref.isWhole_whole _) inV (Memref.isWhole_whole _) outV (Memref.isWhole_whole _)
          cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets what the call asks of it. -/
theorem tileObl (hF : (K (F := F)).Facts) : (K (F := F)).TileObl (D (F := F)) 𝒱 (P m) v₀ 0 := by
  intro d c i O W hO _ _
  simp only [show (P (F := F) m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (mat m d) (m (bLoc d)) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's rows go out to its tiles and come back. -/
theorem vecSplit : (K (F := F)).VecSplit' (P m) 0 := by
  intro d c
  show corePts d c.val (mat m d) (m (bLoc d)) ⊢ |={Set.univ}=> iprop(
      (bigSep Finset.univ fun i : Fin ((K (F := F)).nSub 0) => tilePts d c.val (Fin.cast nSub_zero i).val (mat m d) (m (bLoc d)))
      ∗ ((bigSep Finset.univ fun i : Fin ((K (F := F)).nSub 0) => tilePts d c.val (Fin.cast nSub_zero i).val (mat m d) (bOut (mat m d)))
          -∗ corePts d c.val (mat m d) (bOut (mat m d))))
  rw [bigSep_tasks (F := F) (fun i => tilePts d c.val i.val (mat m d) (m (bLoc d))),
    bigSep_tasks (F := F) (fun i => tilePts d c.val i.val (mat m d) (bOut (mat m d))), corePts_tiles, corePts_tiles]
  iintro H; imodintro
  isplitl [H]; · iexact H
  iintro H; iexact H

/-! ## The call's resources out of the whole arrays -/

/-- The rows of the matrix that the SparseCores read. -/
def xBoth : Finset S16384x4096.Idx := Finset.univ.biUnion fun c : Fin 2 => xCore c.val

/-- A row of the matrix that a SparseCore reads is read by one of its tiles. -/
theorem mem_xCore (c : ℕ) (y : S16384x4096.Idx) (h : y ∈ xCore c) : ∃ s : Fin 16, (y 0).val / 128 = 96 + 2 * s.val + c := by
  obtain ⟨s, -, hs⟩ := Finset.mem_biUnion.mp h
  exact ⟨s, (Finset.mem_filter.mp hs).2⟩
/-- A row of the result that a SparseCore writes is written by one of its tiles. -/
theorem mem_bCore (c : ℕ) (y : S4096x4096.Idx) (h : y ∈ bCore c) : ∃ s : Fin 16, (y 0).val / 128 = 2 * s.val + c := by
  obtain ⟨s, -, hs⟩ := Finset.mem_biUnion.mp h
  exact ⟨s, (Finset.mem_filter.mp hs).2⟩

/-- The two SparseCores read different rows of the matrix, -/
theorem xCore_disjoint : ∀ i ∈ (Finset.univ : Finset (Fin 2)), ∀ j ∈ (Finset.univ : Finset (Fin 2)), i ≠ j → Disjoint (xCore i.val) (xCore j.val) := by
  intro i _ j _ h
  refine Finset.disjoint_left.mpr fun y hi hj => h (Fin.ext ?_)
  obtain ⟨s, h1⟩ := mem_xCore _ y hi; obtain ⟨s', h2⟩ := mem_xCore _ y hj
  omega
/-- and write different rows of the result. -/
theorem bCore_disjoint : ∀ i ∈ (Finset.univ : Finset (Fin 2)), ∀ j ∈ (Finset.univ : Finset (Fin 2)), i ≠ j → Disjoint (bCore i.val) (bCore j.val) := by
  intro i _ j _ h
  refine Finset.disjoint_left.mpr fun y hi hj => h (Fin.ext ?_)
  obtain ⟨s, h1⟩ := mem_bCore _ y hi; obtain ⟨s', h2⟩ := mem_bCore _ y hj
  omega

/-- The two SparseCores' rows of the result are all of it. -/
theorem bCore_cover : (Finset.univ.biUnion fun c : Fin 2 => bCore c.val) = Finset.univ := by
  refine Finset.eq_univ_iff_forall.mpr fun y => ?_
  have h : (y 0).val < 4096 := (y 0).isLt
  exact Finset.mem_biUnion.mpr ⟨⟨(y 0).val / 128 % 2, by omega⟩, Finset.mem_univ _,
    Finset.mem_biUnion.mpr ⟨⟨(y 0).val / 256, by omega⟩, Finset.mem_univ _,
      Finset.mem_filter.mpr ⟨Finset.mem_univ _, by show (y 0).val / 128 = 2 * ((y 0).val / 256) + (y 0).val / 128 % 2; omega⟩⟩⟩

/-- The whole result array, and the SparseCores' rows of the matrix, are the two SparseCores' resources. -/
theorem cores (d : Dev nD) (X : S16384x4096.Idx → F .f32) (b : S4096x4096.Idx → F .f32) :
    (bigSep Finset.univ fun c : Fin 2 => corePts (F := F) d c.val X b)
      = iprop((xLoc d ↦[xBoth]{fullShare} X) ∗ (bLoc d ↦{fullShare} b)) := by
  unfold corePts xBoth
  rw [bigSep_sep', ← pointsTo_biUnion Finset.univ (ℓ := xLoc d) (fun c : Fin 2 => xCore c.val) xCore_disjoint,
    ← pointsTo_biUnion Finset.univ (ℓ := bLoc d) (fun c : Fin 2 => bCore c.val) bCore_disjoint, bCore_cover]
  try rfl

/-- The call's inputs out of the two arrays held whole, with what stays behind; -/
theorem st_of_arrays (d : Dev nD) :
    iprop((xLoc d ↦{fullShare} mat m d) ∗ (bLoc d ↦{fullShare} m (bLoc d)))
      ⊢ (iprop((bigSep Finset.univ fun c : Fin ((K (F := F)).nCore 0) => (P m).st 0 d c) ∗ (xLoc d ↦[Finset.univ \ xBoth]{fullShare} mat m d)) : sProp 𝕄) := by
  rw [show (bigSep Finset.univ fun c : Fin ((K (F := F)).nCore 0) => (P m).st 0 d c) = _ from cores d (mat m d) (m (bLoc d))]
  iintro ⟨Hx, Hb⟩
  ihave Hx' := (pointsTo_split_subset (q := fullShare) (f := mat m d) (S := Finset.univ) (Finset.subset_univ xBoth)).1 $$ Hx
  icases Hx' with ⟨Hx, Hr⟩
  isplitr [Hr]
  · isplitl [Hx] <;> iassumption
  · iexact Hr

/-- the arrays whole again out of what the call brings back. -/
theorem arrays_of_dn (d : Dev nD) :
    iprop((bigSep Finset.univ fun c : Fin ((K (F := F)).nCore 0) => (P m).dn 0 d c) ∗ (xLoc d ↦[Finset.univ \ xBoth]{fullShare} mat m d))
      ⊢ (iprop((xLoc d ↦{fullShare} mat m d) ∗ (bLoc d ↦{fullShare} bOut (mat m d))) : sProp 𝕄) := by
  rw [show (bigSep Finset.univ fun c : Fin ((K (F := F)).nCore 0) => (P m).dn 0 d c) = _ from cores d (mat m d) (bOut (mat m d))]
  iintro ⟨⟨Hx, Hb⟩, Hr⟩
  isplitr [Hb]
  · iapply (pointsTo_split_subset (q := fullShare) (f := mat m d) (S := Finset.univ) (Finset.subset_univ xBoth)).2
    isplitl [Hx] <;> iassumption
  · iexact Hb

end Cert.Proof.Run

end
-- ==== Proof.Main.lean ====
/- The kernel's @main on the TensorCore: the first pipeline, the SparseCore call, the host's copy and
   the last pipeline, and the whole launch: the result is `out` of the input, the input is kept, and
   every semaphore ends at zero. -/
module

public import proofs.«01_k».proof.Proof.Region0
public import proofs.«01_k».proof.Proof.Region1
public import proofs.«01_k».proof.Proof.Deal

@[expose] public section

noncomputable section

namespace Cert.Proof.Run

open Cert.KernelIdeal Cert.KernelIdeal.Gen Cert.Proof.Words Cert.Proof.Blocks Cert.Proof.Values

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the arrays hold between the steps -/

abbrev Arrays : Type := (c : Dev nD) → (b : Ref sig .tc) → Buf (Elt F) ((c : Thread nD τ).loc b)

/-- What the TensorCore owes the SparseCores before the call and after it, and the level of its waits. -/
abbrev O0 (c : Dev nD) : CellTallies nD τ sig (HIx 1) := (K (F := F)).Otc c 0
abbrev O1 (c : Dev nD) : CellTallies nD τ sig (HIx 1) := (K (F := F)).Otc c 1
abbrev β (n : ℕ) : ℕ := 8 * n

/-- The arrays at launch, after the first pipeline, before the last one and at the end. -/
def V0 : Arrays (F := F) := fun c b => m ((c : Thread nD τ).loc b)
def V1 : Arrays (F := F) := fun c => Function.update (V0 m c) main_v0 ((dat0 (V0 m) (O0 (F := F)) (β 0) c).arrAt 1 cfg0.N)
def V2 : Arrays (F := F) := fun c => Function.update (Function.update (V1 m c) main_v1 (bOut (mat m c))) main_v2 (V1 m c main_v0)
def V3 : Arrays (F := F) := fun c => Function.update (V2 m c) main_v2 ((dat2 (V2 m) (O1 (F := F)) (β 1) c).arrAt 1 cfg2.N)

/-- Neither pipeline has a table, so there is one choice of them. -/
abbrev adm : (p : Fin 2) → (pcfgs (F := F) p).Adm := fun p => (cfgs p).toPCfg_adm

def dats : (p : Fin 2) → (c : Dev nD) → Dat τ (Elt F) (HIx 1) ℕ UU ℕ (Pipeline.pin (pcfgs (F := F)) adm p) c
  | ⟨0, _⟩ => dat0 (V0 m) (O0 (F := F)) (β 0)
  | ⟨1, _⟩ => dat2 (V2 m) (O1 (F := F)) (β 1)
  | ⟨_ + 2, h⟩ => absurd h (Nat.not_lt.2 (Nat.le_add_left _ _))

/-- Nothing owed to the SparseCores is owed at a pipeline's own waits. -/
theorem owed_none (n : ℕ) (c : Dev nD) (g : GSem nD τ sig) : (K (F := F)).Otc (N := 1) c n g none = 0 := by
  unfold SparseCore.Cfg.Otc
  rw [Finset.sum_apply, Finsupp.finsetSum_apply]
  refine Finset.sum_eq_zero fun q _ => ?_
  split_ifs
  · rw [Finset.sum_apply, Finsupp.finsetSum_apply]
    refine Finset.sum_eq_zero fun c' _ => ?_
    rw [tallyAt_apply, if_neg (fun h => nomatch h.2)]
  · rfl

/-- The two pipelines' regions. -/
def R0 := reg (V0 m) (O0 (F := F)) (β 0) adm (dats m) (V1 m) 0 launch0
  (plain0 (V0 m) (O0 (F := F)) (β 0) adm (dats m) (V1 m) rfl (fun _ => Function.update_self _ _ _) (fun _ _ h => Function.update_of_ne h _ _)) (owed_none 0)

def R2 := reg (V2 m) (O1 (F := F)) (β 1) adm (dats m) (V3 m) 1 launch2
  (plain2 (V2 m) (O1 (F := F)) (β 1) adm (dats m) (V3 m) rfl (fun _ => Function.update_self _ _ _) (fun _ _ h => Function.update_of_ne h _ _)) (owed_none 1)

instance EP_landsIn : (EP (F := F)).LandsIn (upEmb : UEmb _ 𝕄) := by unfold EP; infer_instance

/-- A pipeline's call in @main: its region around the rest of the program. -/
theorem wp_call [∀ e, Nonempty (Elt F e)] {p : Fin 2}
    (R : Pipeline.RegionSeg (pcfgs (F := F)) adm (dats m) none defs₀ 𝒱₀ (K (F := F)).L (K (F := F)).lev p) (d : Dev nD) (Q : PUnit → sProp 𝕄) :
    iprop((iprop(boundary (T d) ∗ R.post d) -∗ Q ⟨⟩) ∗ boundary (T d) ∗ R.pre d ∗ levAts (K (F := F)).L (K (F := F)).lev
        ∗ cellsGhost (Pipeline.pin (pcfgs (F := F)) adm) EP p d ∗ toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  refine BIBase.Entails.trans ?_ ((K (F := F)).wp_liftProg (D (F := F)) 𝒱 (T d) Set.univ none
    (.op (.customCall (Pipeline.entry p) ()) .ret) Q)
  refine BIBase.Entails.trans ?_ (Pipeline.RegionSeg.wp (pcfgs (F := F)) adm (dats m) none cellOf_inj EP defs₀ 𝒱₀ (K (F := F)).L (K (F := F)).lev R d none
    (fun _ h => nomatch h) .ret Q)
  iintro ⟨Hk, Hr⟩
  isplitl [Hk]
  · iintro H
    rw [wp_ret]; imodintro
    iapply Hk; iexact H
  iexact Hr

/-! ## The ghost state at launch -/

/-- The launch element: the handshakes' rounds, the pipelines' and no transfer's counters. -/
def u₀ : UU := (initOf (K (F := F)).hsCells (K (F := F)).hsToks,
  (initOf (Pipeline.cells (nD := nD) (τ := τ) cfgs cellOf_inj) (Pipeline.launchToks cfgs cellOf_inj), 1))

/-- What @main gets of it on a device: both pipelines' cells and tokens. -/
abbrev G (d : Dev nD) : sProp 𝕄 :=
  iprop((bigSep Finset.univ fun p : Fin 2 => cellsGhost (Pipeline.pin (pcfgs (F := F)) adm) EP p d)
    ∗ bigSep Finset.univ fun p : Fin 2 => toksInit (Pipeline.pin (pcfgs (F := F)) adm) EP p d)

/-- Nothing for each thread is nothing. -/
theorem no_extras {I : Type} (s : Finset I) : (bigSep s fun _ => iprop(emp)) = (iprop(emp) : sProp 𝕄) := bigSep_emp_const s

/-- The launch element gives the handshakes' state and each device's share of the pipelines'. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks cfgs cellOf_inj), 1) : UP × Counters)) $$ Hu
  icases H with ⟨HH, HP⟩
  imod (Pipeline.fund_ghost (Pipeline.pin (pcfgs (F := F)) adm) (EP (F := F)) cellOf_inj) $$ [HP] with ⟨Hg, Ht⟩
  · iexact HP
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_extras]
  iempintro

/-! ## @main -/

/-- The TensorCore's arrays, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_v0)
      ∗ (bLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The host's copy and the arrays it is proved over. -/
abbrev opCopy : HloOp τ sig (Elt F) := StableHlo.unary main_v0 main_v2 id
abbrev SS : Finset (DevRef τ sig) := {Proc.devRef .tc main_v0, Proc.devRef .tc main_v2}

/-- The copy's two arrays, one by one. -/
theorem held_SS (d : Dev nD) (W : Valuation τ sig (Elt F)) :
    (held (T d) SS W : sProp 𝕄) = iprop((aLoc d ↦{fullShare} W (Proc.devRef .tc main_v0)) ∗ (oLoc d ↦{fullShare} W (Proc.devRef .tc main_v2))) := by
  unfold held SS
  rw [SparseCore.bigSep_insert' (by decide), bigSep_singleton]

/-- The arrays after the first pipeline, as the host's operation reads them. -/
abbrev VH (d : Dev nD) : Valuation τ sig (Elt F) := fun b =>
  if h : b = Proc.devRef .tc main_v0 then h ▸ V1 m d main_v0 else m (d, b)

/-- Before the copy: the first call's result, and the last result's array as it started. -/
theorem copy_in (d : Dev nD) : (held (T d) SS (VH m d) : sProp 𝕄)
    = iprop((aLoc d ↦{fullShare} V1 m d main_v0) ∗ (oLoc d ↦{fullShare} m (oLoc d))) := by
  rw [held_SS]; rfl

/-- After the copy both arrays hold the first call's result. -/
theorem copy_out (d : Dev nD) : (held (T d) SS ((opCopy (F := F)).result (VH m d)) : sProp 𝕄)
    = iprop((aLoc d ↦{fullShare} V1 m d main_v0) ∗ (oLoc d ↦{fullShare} V1 m d main_v0)) := by
  rw [held_SS, StableHlo.unary_result, StableHlo.unary_result_ne _ _ _ _ _ _ (by decide)]; rfl

/-- What the TensorCore's arrays hold at each step, read off the definitions. -/
theorem V1_x (d : Dev nD) : V1 m d main_arg0 = m (xLoc d) := Function.update_of_ne (by decide) _ _
/-- The first pipeline leaves the SparseCores' result as it started, -/
theorem V1_b (d : Dev nD) : V1 m d main_v1 = m (bLoc d) := Function.update_of_ne (by decide) _ _
/-- and the last result's array. -/
theorem V1_o (d : Dev nD) : V1 m d main_v2 = m (oLoc d) := Function.update_of_ne (by decide) _ _
/-- Before the last pipeline the matrix is as it started, -/
theorem V2_x (d : Dev nD) : V2 m d main_arg0 = m (xLoc d) :=
  (Function.update_of_ne (by decide) _ _).trans ((Function.update_of_ne (by decide) _ _).trans (V1_x m d))
/-- the first call's result is as that call left it, -/
theorem V2_a (d : Dev nD) : V2 m d main_v0 = V1 m d main_v0 :=
  (Function.update_of_ne (by decide) _ _).trans (Function.update_of_ne (by decide) _ _)
/-- the SparseCores' result holds the signs of the matrix's last rows, -/
theorem V2_b (d : Dev nD) : V2 m d main_v1 = bOut (mat m d) :=
  (Function.update_of_ne (by decide) _ _).trans (Function.update_self _ _ _)
/-- and the last result's array holds the first call's result. -/
theorem V2_o (d : Dev nD) : V2 m d main_v2 = V1 m d main_v0 := Function.update_self _ _ _
/-- At the end the matrix is as it started. -/
theorem V3_x (d : Dev nD) : V3 m d main_arg0 = m (xLoc d) := (Function.update_of_ne (by decide) _ _).trans (V2_x m d)

/-- The result at the end: the signs of the whole matrix. -/
theorem V3_o (d : Dev nD) : V3 m d main_v2 = out (mat m d) := by
  refine (Function.update_self _ _ _).trans (funext fun i => ?_)
  rw [arr2]
  have hi : (i 0).val < 16384 := (i 0).isLt
  split_ifs with h
  · rw [V2_b]
    unfold bOut
    refine congrArg (out (mat m d)) (funext fun a => Fin.ext ?_)
    match a with
    | 0 => show 12288 + ((i 0).val - 12288) = _; omega
    | 1 => rfl
  · rw [V2_o]
    refine (congrFun (Function.update_self _ _ _) i).trans ?_
    rw [arr0, if_pos (by omega)]; rfl

abbrev FIN (d : Dev nD) : sProp 𝕄 := iprop((xLoc d ↦{fullShare} mat m d) ∗ (oLoc d ↦{fullShare} out (mat m d)))

/-- What the TensorCore owes and has recorded, out of its state between calls and back into it. -/
theorem tcSt_open (d : Dev nD) (n : ℕ) : ((K (F := F)).tcSt EH d n : sProp 𝕄)
    ⊢ iprop(ow (F := F) d (β n) ((K (F := F)).Otc d n) ∗ (ow (F := F) d (β n) ((K (F := F)).Otc d n) -∗ (K (F := F)).tcSt EH d n)) := by
  unfold SparseCore.Cfg.tcSt
  iintro ⟨How, Hst⟩
  isplitl [How]; · iexact How
  iintro How
  isplitl [How]; · iexact How
  iexact Hst

/-- A device's share of the pipelines' state, pipeline by pipeline. -/
theorem G_eq (d : Dev nD) : (G (F := F) d : sProp 𝕄)
    = iprop((cellsGhost (Pipeline.pin (pcfgs (F := F)) adm) EP 0 d ∗ cellsGhost (Pipeline.pin (pcfgs (F := F)) adm) EP 1 d)
      ∗ (toksInit (Pipeline.pin (pcfgs (F := F)) adm) EP 0 d ∗ toksInit (Pipeline.pin (pcfgs (F := F)) adm) EP 1 d)) := by
  unfold G
  rw [bigSep_univ_two, bigSep_univ_two]

/-- The arrays after the first pipeline, and before and after the last. -/
theorem bufs1 (d : Dev nD) : (unscopedBufs d (V1 m d) : sProp 𝕄) = iprop((xLoc d ↦{fullShare} mat m d) ∗ (aLoc d ↦{fullShare} V1 m d main_v0)
      ∗ (bLoc d ↦{fullShare} m (bLoc d)) ∗ oLoc d ↦{fullShare} m (oLoc d)) := by
  rw [unscopedBufs_eq, V1_x, V1_b, V1_o]
/-- The arrays before the last pipeline; -/
theorem bufs2 (d : Dev nD) : (unscopedBufs d (V2 m d) : sProp 𝕄) = iprop((xLoc d ↦{fullShare} mat m d) ∗ (aLoc d ↦{fullShare} V1 m d main_v0)
      ∗ (bLoc d ↦{fullShare} bOut (mat m d)) ∗ oLoc d ↦{fullShare} V1 m d main_v0) := by
  rw [unscopedBufs_eq, V2_x, V2_a, V2_b, V2_o]
/-- and after it. -/
theorem bufs3 (d : Dev nD) : (unscopedBufs d (V3 m d) : sProp 𝕄) = iprop((xLoc d ↦{fullShare} mat m d) ∗ (aLoc d ↦{fullShare} V3 m d main_v0)
      ∗ (bLoc d ↦{fullShare} V3 m d main_v1) ∗ oLoc d ↦{fullShare} out (mat m d)) := by
  rw [unscopedBufs_eq, V3_x, V3_o]

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [G_eq]
  simp only [main, wp_bind, wp_pure]
  iintro ⟨#Hctx, Hst, ⟨Hb, Hbufs, Hts, -⟩, ⟨Hg0, Hg1⟩, Ht0, Ht1⟩
  ihave #Hlev := (SparseCore.Cfg.ctx_levAts (K := K (F := F)) (EH := EH) (P := P m) κ) $$ Hctx
  ihave H := (tcSt_open d 0) $$ Hst
  icases H with ⟨How, Hst⟩
  iapply (wp_call m (R0 m) d _)
  rw [show (R0 m).pre d = iprop(unscopedBufs d (V0 m d) ∗ ow (F := F) d (β 0) (O0 (F := F) d)) from rfl]
  isplitr [Hb Hbufs How Hg0 Ht0]
  swap
  · isplitl [Hb]; · iexact Hb
    isplitl [Hbufs How]
    · isplitl [Hbufs]; · iexact Hbufs
      iexact How
    isplitr; · iexact Hlev
    isplitl [Hg0] <;> iassumption
  iintro ⟨Hb, Hpost⟩
  ihave Hpost := (Entails.of_eq (show (R0 m).post d = iprop(unscopedBufs d (V1 m d) ∗ ow (F := F) d (β 0) (O0 (F := F) d)) from rfl)) $$ Hpost
  icases Hpost with ⟨Hbufs, How⟩
  ihave Hbufs := (Entails.of_eq (bufs1 m d)) $$ Hbufs
  icases Hbufs with ⟨Hx, Ha, Hb1, Ho⟩
  ihave H := (st_of_arrays m d) $$ [Hx Hb1]
  · isplitl [Hx] <;> iassumption
  icases H with ⟨Hpts, Hrest⟩
  iapply ((K (F := F)).wp_run (D (F := F)) 𝒱 (EH := EH) (P := P m) κ d 0)
  isplitr; · iexact Hctx
  isplitl [Hst How]
  · iapply Hst; iexact How
  isplitl [Hpts]; · iexact Hpts
  iintro ⟨Hst, Hdn⟩
  ihave H := (arrays_of_dn m d) $$ [Hdn Hrest]
  · isplitl [Hdn] <;> iassumption
  icases H with ⟨Hx, Hb1⟩
  iapply (wp_hlo_within 𝒱 (T d) none Set.univ (op := opCopy) (S := SS) (show SS ⊆ SS from subset_rfl) (V := VH m d)) $$ [Hb Ha Ho]
  · isplitl [Hb]; · iexact Hb
    iapply (Entails.of_eq (copy_in m d).symm)
    isplitl [Ha] <;> iassumption
  iintro ⟨Hb, Hh⟩
  ihave Hh := (Entails.of_eq (copy_out m d)) $$ Hh
  icases Hh with ⟨Ha, Ho⟩
  iapply (Entails.of_eq (wp_ret _ _ _ _ _).symm)
  imodintro
  ihave H := (tcSt_open d 1) $$ [Hst]
  · iexact Hst
  icases H with ⟨How, Hst⟩
  iapply (wp_call m (R2 m) d _)
  rw [show (R2 m).pre d = iprop(unscopedBufs d (V2 m d) ∗ ow (F := F) d (β 1) (O1 (F := F) d)) from rfl]
  isplitr [Hb Hx Ha Hb1 Ho How Hg1 Ht1]
  swap
  · isplitl [Hb]; · iexact Hb
    isplitl [Hx Ha Hb1 Ho How]
    · isplitl [Hx Ha Hb1 Ho]
      · iapply (Entails.of_eq (bufs2 m d).symm)
        isplitl [Hx]; · iexact Hx
        isplitl [Ha]; · iexact Ha
        isplitl [Hb1] <;> iassumption
      iexact How
    isplitr; · iexact Hlev
    isplitl [Hg1] <;> iassumption
  iintro ⟨Hb, Hpost⟩
  ihave Hpost := (Entails.of_eq (show (R2 m).post d = iprop(unscopedBufs d (V3 m d) ∗ ow (F := F) d (β 1) (O1 (F := F) d)) from rfl)) $$ Hpost
  icases Hpost with ⟨Hbufs, How⟩
  ihave Hbufs := (Entails.of_eq (bufs3 m d)) $$ Hbufs
  icases Hbufs with ⟨Hx, -, -, Ho⟩
  imodintro
  isplitl [Hst How]
  · iapply Hst; iexact How
  isplitl [Hx Ho]
  · isplitl [Hx] <;> iassumption
  isplitl [Hb] <;> iassumption

/-- What the launch leaves: the input kept, the result at the signs. -/
def fq (d : Dev nD) (s' : Phys nD τ sig (Elt F)) : Prop := s'.mem.mem (xLoc d) = mat m d ∧ s'.mem.mem (oLoc d) = out (mat m d)

set_option maxRecDepth 16384 in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := mat m d))) $$ [HSI Hx]
  · isplitl [HSI] <;> iassumption
  icases H with ⟨%h1, HSI, -⟩
  ihave H := (SI_pointsTo_agree (st := s') (ℓ := oLoc d) (I := Finset.univ) (q := fullShare) (f := out (mat m d))) $$ [HSI Ho]
  · isplitl [HSI] <;> iassumption
  icases H with %h2
  ipureintro; exact ⟨funext fun i => h1 i (Finset.mem_univ i), funext fun i => h2 i (Finset.mem_univ i)⟩

/-- The launch's outcome: the result is the signs of the input, the input is kept, no semaphore is left raised. -/
def QC : PUnit × MemSt nD τ sig (Elt F) → Prop := fun r =>
  (∀ c : Dev nD, r.2.mem (xLoc c) = mat m c ∧ r.2.mem (oLoc c) = out (mat m c)) ∧ r.2.sem = fun _ => 0

/-- Every launch of the kernel ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.Line.lean ====
/- A straight line of StableHLO operations in single-assignment form: each operation writes a buffer of
   its own, numbered after every buffer it reads. Run from any contents, such a line ends in contents
   that satisfy every one of its equations at once. -/
module

public import Idealize.ShloMosaic.Lib.StableHlo.Run

@[expose] public section

noncomputable section

namespace Cert.Proof.Line

open Idealize.ShloMosaic Idealize.ShloMosaic.TcCoe Idealize.ShloMosaic.StableHlo
open Idealize.SL.Sem

variable {nD : Nat} {τ : Topo} {sig : RefSig} {Val : EltTy → Type} {Λ : Labels} [hVal : ∀ e, Nonempty (Val e)]

/-- The operations a program begins, in order. -/
def opsOf {α : Type} : Prog (TpuEff nD τ sig Val Λ .tc) α → List (HloOp τ sig Val)
  | .ret _ => []
  | .op (.hloBegin _ op) k => op :: opsOf (k ⟨⟩)
  | .op (.hloEnd _ _) k => opsOf (k fun _ _ => Classical.choice (hVal _))
  | _ => []

/-- One operation as a program. -/
abbrev one (op : HloOp τ sig Val) : Prog (TpuEff nD τ sig Val Λ .tc) PUnit := hlo rfl op fun _ => .ret ⟨⟩

/-- The operations of one operation are itself. -/
theorem opsOf_one (op : HloOp τ sig Val) : opsOf (one (nD := nD) (Λ := Λ) op) = [op] := rfl

/-- The operations of a line are the line. -/
theorem opsOf_seq (l : List (HloOp τ sig Val)) : opsOf (seq (nD := nD) (Λ := Λ) l) = l := by
  induction l with
  | nil => rfl
  | cons op l ih => exact congrArg (op :: ·) ih

/-- The number of a TensorCore reference in its memory. -/
def rank (r : Ref sig .tc) : ℕ := r.idx.val

/-- An operation that writes the buffer numbered `n` from buffers numbered below `n`. -/
def Step (n : ℕ) (op : HloOp τ sig Val) : Prop :=
  op.bufs ⊆ tcRefs τ sig ∧ op.fresh = ∅ ∧
    ∃ (y : Ref sig .tc) (R : List (Ref sig .tc)), op.writes = {Proc.devRef .tc y} ∧ rank y = n ∧
      (∀ r ∈ R, rank r < n) ∧
      ∀ V W : Valuation τ sig Val, (∀ r ∈ R, V (Proc.devRef .tc r) = W (Proc.devRef .tc r)) →
        op.result V (Proc.devRef .tc y) = op.result W (Proc.devRef .tc y)

/-- A list whose operations write the buffers numbered `n`, `n + 1`, … up to before `m`. -/
def Chain : ℕ → ℕ → List (HloOp τ sig Val) → Prop
  | n, m, [] => n = m
  | n, m, op :: l => Step n op ∧ Chain (n + 1) m l

/-- Two chains, the second from where the first ends, make one chain. -/
theorem chain_append {n k m : ℕ} {a b : List (HloOp τ sig Val)} (ha : Chain n k a) (hb : Chain k m b) :
    Chain n m (a ++ b) := by
  induction a generalizing n with
  | nil => cases ha; exact hb
  | cons op a ih => exact ⟨ha.1, ih ha.2⟩

/-- Every operation of a chain touches TensorCore buffers only and has none to overwrite freely. -/
theorem chain_plain {n m : ℕ} {l : List (HloOp τ sig Val)} (h : Chain n m l) :
    ∀ op ∈ l, op.bufs ⊆ tcRefs τ sig ∧ op.fresh = ∅ := by
  induction l generalizing n with
  | nil => intro op hop; cases hop
  | cons op l ih =>
    intro o ho
    rcases List.mem_cons.mp ho with rfl | ho
    · exact ⟨h.1.1, h.1.2.1⟩
    · exact ih h.2 o ho

/-- A chain leaves the buffers numbered before it. -/
theorem chain_keeps {n m : ℕ} {l : List (HloOp τ sig Val)} (h : Chain n m l) (V : Valuation τ sig Val)
    (r : Ref sig .tc) (hr : rank r < n) : after l V (Proc.devRef .tc r) = V (Proc.devRef .tc r) := by
  induction l generalizing n V with
  | nil => rfl
  | cons op l ih =>
    obtain ⟨⟨-, -, y, R, hw, hy, -, -⟩, ht⟩ := h
    rw [after_cons, ih ht _ (by omega)]
    refine HloOp.result_of_not_mem _ _ ?_
    rw [hw, Finset.mem_singleton]
    refine devRef_ne_of_ne ?_
    rintro rfl
    omega

/-- The contents a chain ends in are a fixed point of each of its operations: its equations all hold there. -/
theorem chain_fixed {n m : ℕ} {l : List (HloOp τ sig Val)} (h : Chain n m l) (V : Valuation τ sig Val) :
    ∀ op ∈ l, op.result (after l V) = after l V := by
  induction l generalizing n V with
  | nil => intro op hop; cases hop
  | cons op l ih =>
    intro o ho
    rw [after_cons]
    rcases List.mem_cons.mp ho with rfl | ho
    · obtain ⟨⟨-, -, y, R, hw, hy, hR, hdep⟩, ht⟩ := h
      funext b
      by_cases hb : b ∈ o.writes
      · rw [hw, Finset.mem_singleton] at hb
        subst hb
        rw [chain_keeps ht _ y (by omega)]
        refine hdep _ _ fun r hr => ?_
        have hlt := hR r hr
        rw [chain_keeps ht _ r (by omega)]
        refine HloOp.result_of_not_mem _ _ ?_
        rw [hw, Finset.mem_singleton]
        refine devRef_ne_of_ne ?_
        rintro rfl
        omega
      · exact HloOp.result_of_not_mem _ _ hb
    · exact ih h.2 _ o ho

/-- A program that is the line of its operations, which are a chain from `n` to `m`. -/
def Ok (n m : ℕ) (p : Prog (TpuEff nD τ sig Val Λ .tc) PUnit) : Prop :=
  p = seq (opsOf p) ∧ Chain n m (opsOf p)

/-- Two lines, one after the other, are the line of both lists. -/
theorem opsOf_bind {p q : Prog (TpuEff nD τ sig Val Λ .tc) PUnit} (hp : p = seq (opsOf p)) (hq : q = seq (opsOf q)) :
    (p >>= fun _ => q) = seq (opsOf p ++ opsOf q) := by
  rw [seq_append, ← hp, ← hq]

/-- One program after another. -/
theorem ok_bind {n k m : ℕ} {p q : Prog (TpuEff nD τ sig Val Λ .tc) PUnit} (hp : Ok n k p) (hq : Ok k m q) :
    Ok n m (p >>= fun _ => q) := by
  have e := opsOf_bind hp.1 hq.1
  have e' : opsOf (p >>= fun _ => q) = opsOf p ++ opsOf q := by rw [e, opsOf_seq]
  exact ⟨by rw [e']; exact e, by rw [e']; exact chain_append hp.2 hq.2⟩

/-- One operation. -/
theorem ok_one {n : ℕ} {op : HloOp τ sig Val} (h : Step n op) : Ok n (n + 1) (one (nD := nD) (Λ := Λ) op) :=
  ⟨rfl, h, rfl⟩

/-- No operation. -/
theorem ok_pure {n : ℕ} : Ok n n (pure ⟨⟩ : Prog (TpuEff nD τ sig Val Λ .tc) PUnit) := ⟨rfl, rfl⟩

/-- The same, the end given as an equal number. -/
theorem ok_one_bind {n m : ℕ} {op : HloOp τ sig Val} {q : Prog (TpuEff nD τ sig Val Λ .tc) PUnit} (h : Step n op)
    (hq : Ok (n + 1) m q) : Ok n m (one (nD := nD) (Λ := Λ) op >>= fun _ => q) := ok_bind (ok_one h) hq

section Steps

variable {n : ℕ} {a b c y : Ref sig .tc}

/-- A constant written to buffer `n` is such a step; -/
theorem step_nullary {v : y.ty.Contents Val} {hy} (hn : rank y = n) : Step n (nullary (τ := τ) y v hy) :=
  ⟨nullary_bufs_sub y v hy, rfl, y, [], rfl, hn, by simp, fun V W _ => by
    rw [nullary_result, nullary_result]⟩

/-- so is an operation of one operand from below, -/
theorem step_unary {f : a.ty.Contents Val → y.ty.Contents Val} {ha hy} (hn : rank y = n) (h1 : rank a < n) :
    Step n (unary (τ := τ) a y f ha hy) :=
  ⟨unary_bufs_sub a y f ha hy, rfl, y, [a], rfl, hn, by simpa using h1, fun V W h => by
    rw [unary_result, unary_result, h a (by simp)]⟩

/-- of two, -/
theorem step_binary {f : a.ty.Contents Val → b.ty.Contents Val → y.ty.Contents Val} {ha hb hy} (hn : rank y = n)
    (h1 : rank a < n) (h2 : rank b < n) : Step n (binary (τ := τ) a b y f ha hb hy) :=
  ⟨binary_bufs_sub a b y f ha hb hy, rfl, y, [a, b], rfl, hn, by simpa using ⟨h1, h2⟩, fun V W h => by
    rw [binary_result, binary_result, h a (by simp), h b (by simp)]⟩

/-- of three, -/
theorem step_ternary {f : c.ty.Contents Val → a.ty.Contents Val → b.ty.Contents Val → y.ty.Contents Val} {hc ha hb hy}
    (hn : rank y = n) (h0 : rank c < n) (h1 : rank a < n) (h2 : rank b < n) :
    Step n (ternary (τ := τ) c a b y f hc ha hb hy) :=
  ⟨ternary_bufs_sub a b c y f hc ha hb hy, rfl, y, [c, a, b], rfl, hn, by simpa using ⟨h0, h1, h2⟩, fun V W h => by
    rw [ternary_result, ternary_result, h c (by simp), h a (by simp), h b (by simp)]⟩

/-- and a reshape. -/
theorem step_reshape {he : a.ty.elt = y.ty.elt} {hs : a.ty.shape.ShapeCasts y.ty.shape} {ha hy} (hn : rank y = n)
    (h1 : rank a < n) : Step n (reshape (τ := τ) (Val := Val) a y he hs ha hy) :=
  ⟨reshape_bufs_sub a y he hs ha hy, rfl, y, [a], rfl, hn, by simpa using h1, fun V W h => by
    rw [reshape_result, reshape_result, h a (by simp)]⟩

variable {Ta Tb Tc Ty : BufTy} {s : TRef sig Ta} {t : TRef sig Tb} {u : TRef sig Tc} {w : TRef sig Ty}

/-- The same of typed references: a constant, -/
theorem tstep_nullary {v : Ty.Contents Val} (hn : rank w.ref = n) : Step n (TRef.nullary (τ := τ) w v) :=
  step_nullary hn

/-- an operation of one operand, -/
theorem tstep_unary {f : Ta.Contents Val → Ty.Contents Val} (hn : rank w.ref = n) (h1 : rank s.ref < n) :
    Step n (TRef.unary (τ := τ) s w f) := step_unary hn h1

/-- of two, -/
theorem tstep_binary {f : Ta.Contents Val → Tb.Contents Val → Ty.Contents Val} (hn : rank w.ref = n)
    (h1 : rank s.ref < n) (h2 : rank t.ref < n) : Step n (TRef.binary (τ := τ) s t w f) := step_binary hn h1 h2

/-- of three, -/
theorem tstep_ternary {f : Tc.Contents Val → Ta.Contents Val → Tb.Contents Val → Ty.Contents Val}
    (hn : rank w.ref = n) (h0 : rank u.ref < n) (h1 : rank s.ref < n) (h2 : rank t.ref < n) :
    Step n (TRef.ternary (τ := τ) u s t w f) := step_ternary hn h0 h1 h2

/-- and a reshape. -/
theorem tstep_reshape {he : Ta.elt = Ty.elt} {hs : Ta.shape.ShapeCasts Ty.shape} (hn : rank w.ref = n)
    (h1 : rank s.ref < n) : Step n (TRef.reshape (τ := τ) (Val := Val) s w he hs) := step_reshape hn h1

end Steps

/-! The equations of a program at given contents. -/

/-- Every operation of the program leaves the contents `V` as they are: its equations hold at `V`. -/
def Fix (V : Valuation τ sig Val) (p : Prog (TpuEff nD τ sig Val Λ .tc) PUnit) : Prop :=
  ∀ op ∈ opsOf p, op.result V = V

/-- What the contents `V` hold at a value's buffer. -/
def rd (V : Valuation τ sig Val) {T : BufTy} (t : TRef sig T) : T.Contents Val := t.ofBuf (V (Proc.devRef .tc t.ref))

variable {V : Valuation τ sig Val}

/-- The operations of an operation and what follows it: the operation first, then the rest. -/
theorem opsOf_one_bind (op : HloOp τ sig Val) (q : Prog (TpuEff nD τ sig Val Λ .tc) PUnit) :
    opsOf (one (nD := nD) (Λ := Λ) op >>= fun _ => q) = op :: opsOf q := rfl

/-- The equations of an operation and what follows it are the operation's and the rest's. -/
theorem fix_one_bind {op : HloOp τ sig Val} {q : Prog (TpuEff nD τ sig Val Λ .tc) PUnit} :
    Fix V (one (nD := nD) (Λ := Λ) op >>= fun _ => q) ↔ op.result V = V ∧ Fix V q := by
  unfold Fix; rw [opsOf_one_bind]; exact List.forall_mem_cons

/-- The equation of one operation: it leaves the contents as they are. -/
theorem fix_one {op : HloOp τ sig Val} : Fix V (one (nD := nD) (Λ := Λ) op) ↔ op.result V = V := by
  unfold Fix; rw [opsOf_one]; exact List.forall_mem_singleton

/-- The operations of a line and what follows it: the line's first, then the rest. -/
theorem opsOf_seq_bind (l : List (HloOp τ sig Val)) (q : Prog (TpuEff nD τ sig Val Λ .tc) PUnit) :
    opsOf (seq l >>= fun _ => q) = l ++ opsOf q := by
  induction l with
  | nil => rfl
  | cons op l ih => exact congrArg (op :: ·) ih

/-- The equations of one program after another are both programs' equations. -/
theorem fix_bind {n m : ℕ} {p q : Prog (TpuEff nD τ sig Val Λ .tc) PUnit} (hp : Ok n m p) :
    Fix V (p >>= fun _ => q) ↔ Fix V p ∧ Fix V q := by
  have e : opsOf (p >>= fun _ => q) = opsOf p ++ opsOf q :=
    (congrArg (fun p' => opsOf (p' >>= fun _ => q)) hp.1).trans (opsOf_seq_bind _ q)
  unfold Fix
  rw [e]; exact List.forall_mem_append

/-- An operation that writes one buffer leaves `V` when what it writes there is what `V` holds. -/
theorem result_eq_iff {op : HloOp τ sig Val} {y : Ref sig .tc} (hw : op.writes = {Proc.devRef .tc y}) :
    op.result V = V ↔ V (Proc.devRef .tc y) = op.result V (Proc.devRef .tc y) := by
  constructor
  · intro h; rw [h]
  · intro h
    funext b
    by_cases hb : b ∈ op.writes
    · rw [hw, Finset.mem_singleton] at hb; subst hb; exact h.symm
    · exact HloOp.result_of_not_mem _ _ hb

section Eqs

variable {Ta Tb Tc Ty : BufTy} {a : TRef sig Ta} {b : TRef sig Tb} {c : TRef sig Tc} {y : TRef sig Ty}

/-- Contents at a buffer are the transport of a value when the value is the contents read back. -/
theorem rd_iff {v : Ty.Contents Val} : V (Proc.devRef .tc y.ref) = y.toBuf v ↔ rd V y = v := by
  unfold rd
  obtain ⟨r, rfl, _, _⟩ := y
  exact Iff.rfl

/-- A constant leaves the contents as they are when its buffer holds it; -/
theorem eq_nullary {v : Ty.Contents Val} : (TRef.nullary (τ := τ) y v).result V = V ↔ rd V y = v := by
  rw [result_eq_iff (y := y.ref) rfl, nullary_result, rd_iff]

/-- an operation of one operand, when its buffer holds the function of what the operand holds; -/
theorem eq_unary {f : Ta.Contents Val → Ty.Contents Val} :
    (TRef.unary (τ := τ) a y f).result V = V ↔ rd V y = f (rd V a) := by
  rw [result_eq_iff (y := y.ref) rfl, unary_result, rd_iff]; rfl

/-- of two operands, -/
theorem eq_binary {f : Ta.Contents Val → Tb.Contents Val → Ty.Contents Val} :
    (TRef.binary (τ := τ) a b y f).result V = V ↔ rd V y = f (rd V a) (rd V b) := by
  rw [result_eq_iff (y := y.ref) rfl, binary_result, rd_iff]; rfl

/-- of three, -/
theorem eq_ternary {f : Tc.Contents Val → Ta.Contents Val → Tb.Contents Val → Ty.Contents Val} :
    (TRef.ternary (τ := τ) c a b y f).result V = V ↔ rd V y = f (rd V c) (rd V a) (rd V b) := by
  rw [result_eq_iff (y := y.ref) rfl, ternary_result, rd_iff]; rfl

end Eqs

section RefEqs

variable {a b y : Ref sig .tc}

/-- The same of plain references: a constant, -/
theorem req_nullary {v : y.ty.Contents Val} {hy} :
    (nullary (τ := τ) y v hy).result V = V ↔ V (Proc.devRef .tc y) = v := by
  rw [result_eq_iff (y := y) rfl, nullary_result]

/-- an operation of one operand, -/
theorem req_unary {f : a.ty.Contents Val → y.ty.Contents Val} {ha hy} :
    (unary (τ := τ) a y f ha hy).result V = V ↔ V (Proc.devRef .tc y) = f (V (Proc.devRef .tc a)) := by
  rw [result_eq_iff (y := y) rfl, unary_result]

/-- and of two. -/
theorem req_binary {f : a.ty.Contents Val → b.ty.Contents Val → y.ty.Contents Val} {ha hb hy} :
    (binary (τ := τ) a b y f ha hb hy).result V = V ↔
      V (Proc.devRef .tc y) = f (V (Proc.devRef .tc a)) (V (Proc.devRef .tc b)) := by
  rw [result_eq_iff (y := y) rfl, binary_result]

end RefEqs

section ReshapeEq

variable {Ta Ty : BufTy} {a : TRef sig Ta} {y : TRef sig Ty}

/-- A reshape leaves the contents as they are when its buffer holds the operand's elements in the new shape. -/
theorem eq_reshape {he : Ta.elt = Ty.elt} {hs : Ta.shape.ShapeCasts Ty.shape} :
    (TRef.reshape (τ := τ) (Val := Val) a y he hs).result V = V ↔
      rd V y = fun i => he ▸ shapeCast Ty.shape (rd V a) hs i := by
  rw [result_eq_iff (y := y.ref) rfl, reshape_result]
  unfold rd
  obtain ⟨r, rfl, _, _⟩ := a
  obtain ⟨r', rfl, _, _⟩ := y
  exact Iff.rfl

end ReshapeEq

end Cert.Proof.Line
-- ==== Proof.RefOps.lean ====
/- The reference is a straight line in single-assignment form. -/
module

public import proofs.«01_k».proof.Proof.Line
public import proofs.«01_k».proof.Proof.Gen.ReferenceIdeal
public import proofs.«01_k».proof.Defs

@[expose] public section

noncomputable section

namespace Cert.Proof.Ref

open Cert.ReferenceIdeal Cert.ReferenceIdeal.Gen Cert.Proof.Line

open Idealize.ShloMosaic Idealize.ShloMosaic.TcCoe Idealize.ShloMosaic.StableHlo
open Idealize.SL.Sem

set_option maxRecDepth 4000

/-- A program of the reference. -/
abbrev P : Type _ := Prog (TpuEff nD τ sig (Elt Ideal) (Pipeline.Sig Λ₀ (Fin 0) fun p => (pcfgs (F := Ideal) p).Adm) .tc) PUnit

/-- A step before a line of the reference is a line; -/
theorem cons {n m : ℕ} {op : HloOp τ sig (Elt Ideal)} {q : P} (h : Step n op) (hq : Ok (n + 1) m q) :
    Ok n m ((one op : P) >>= fun _ => q) := ok_one_bind h hq

/-- a step alone is one; -/
theorem last {n : ℕ} {op : HloOp τ sig (Elt Ideal)} (h : Step n op) : Ok n (n + 1) (one op : P) := ok_one h

/-- a called function's line before a line is one; -/
theorem call {n n' k m : ℕ} {p q : P} (hp : Ok n' k p) (hn : n = n') (hq : Ok k m q) :
    Ok n m (p >>= fun _ => q) := by subst hn; exact ok_bind hp hq

/-- and so is no step. -/
theorem done {n m : ℕ} (h : n = m) : Ok n m (pure ⟨⟩ : P) := by subst h; exact ok_pure

/-- The first hash, on one pair of words, is such a line. -/
theorem ok_hash1 : Ok 25 247 (fn_threefry2x32.body (F := Ideal) main_call0.v6 main_call0.v8 main_call0.v9
    main_call0.v10 main_call0.call0) := by
  unfold fn_threefry2x32.body fn_threefry2x32.body_part0 fn_threefry2x32.body_part1 fn_threefry2x32.body_part2
    fn_threefry2x32.body_part3
  simp only [bind_assoc]
  repeat' with_reducible first | apply cons | apply last | apply done
  all_goals with_reducible first
    | apply tstep_binary
    | apply tstep_unary
    | apply tstep_nullary
    | skip
  all_goals decide +kernel

/-- The second hash, on a pair of words per element, is such a line. -/
theorem ok_hash2 : Ok 272 494 (fn_threefry2x32_0.body (F := Ideal) main_call1.v5 main_call1.v7 main_call1.v18
    main_call1.v17 main_call1.call0) := by
  unfold fn_threefry2x32_0.body fn_threefry2x32_0.body_part0 fn_threefry2x32_0.body_part1 fn_threefry2x32_0.body_part2
    fn_threefry2x32_0.body_part3
  simp only [bind_assoc]
  repeat' with_reducible first | apply cons | apply last | apply done
  all_goals with_reducible first
    | apply tstep_binary
    | apply tstep_unary
    | apply tstep_nullary
    | skip
  all_goals decide +kernel

/-- The folding of 1 into the key is such a line. -/
theorem ok_fold : Ok 12 248 (fn_threefry_fold_in.body (F := Ideal) (.of main_v6) (.of main_c_2) main_call0) := by
  unfold fn_threefry_fold_in.body
  repeat' with_reducible first | apply cons | apply call ok_hash1 | apply done
  all_goals with_reducible first
    | apply tstep_binary
    | apply tstep_unary
    | apply tstep_nullary
    | apply tstep_reshape
    | skip
  all_goals decide +kernel

/-- The uniform draw is such a line. -/
theorem ok_uniform : Ok 250 512 (fn_uniform.body (F := Ideal) (.of main_v7) (.of main_cst) (.of main_cst_3)
    main_call1) := by
  unfold fn_uniform.body
  repeat' with_reducible first | apply cons | apply call ok_hash2 | apply done
  all_goals with_reducible first
    | apply tstep_binary
    | apply tstep_unary
    | apply tstep_nullary
    | apply tstep_reshape
    | skip
  all_goals decide +kernel

/-- The choice between the two errors is such a line. -/
theorem ok_where : Ok 526 527 (fn_where.body (F := Ideal) (.of main_v13) (.of main_v15) (.of main_v18)
    main_call2) := by
  unfold fn_where.body
  repeat' with_reducible first | apply cons | apply done
  all_goals with_reducible first | apply tstep_ternary | skip
  all_goals decide +kernel

/-- The whole reference is such a line: it writes buffers 1 to 527, its argument being buffer 0. -/
theorem ok_main (d : Dev nD) : Ok 1 528 (main (F := Ideal) d) := by
  unfold main
  repeat' with_reducible first | apply cons | apply call ok_fold | apply call ok_uniform | apply call ok_where | apply done
  all_goals with_reducible first
    | apply step_binary
    | apply step_unary
    | apply step_nullary
    | skip
  all_goals decide +kernel

end Cert.Proof.Ref
-- ==== Proof.RefHash.lean ====
/- The reference's two copies of the hash: contents that satisfy their equations hold `threefry` of
   their operands. -/
module

public import proofs.«01_k».proof.Proof.RefOps
public import proofs.«01_k».proof.Proof.Words

@[expose] public section

noncomputable section

namespace Cert.Proof.Ref

open Cert.ReferenceIdeal Cert.ReferenceIdeal.Gen Cert.Proof.Line Cert.Proof.Words

open Idealize.ShloMosaic Idealize.ShloMosaic.TcCoe Idealize.ShloMosaic.StableHlo
open Idealize.SL.Sem

/-- The only index of a scalar. -/
abbrev pt : S_.Idx := fun a => a.elim0

section Rounds

variable {S : Shape} {hb : S_.BroadcastsInDim S ![]} {Rest : Prop}

/-- Every element of a scalar's broadcast is the scalar. -/
theorem bcast_pt {α : Type} (x : S_.Idx → α) (i : S.Idx) : broadcastInDim S ![] hb x i = x pt :=
  congrArg x (funext fun a => a.elim0)

/-- One round's equations: the new pair of words is `mix` of the old. -/
theorem round_of {d e : BitVec 32} (hd : d.toNat < 32) (he : e.toNat < 32)
    {c c' : S_.Idx → BitVec 32} {a x s bc sl bc' sr o y : S.Idx → BitVec 32}
    (h : s = addi a x ∧ c = constantI S_ 32 d ∧ bc = broadcastInDim S ![] hb c ∧ sl = Host.shli x bc ∧
      c' = constantI S_ 32 e ∧ bc' = broadcastInDim S ![] hb c' ∧ sr = Host.shrui x bc' ∧ o = ori sl sr ∧
      y = xori s o ∧ Rest) : (∀ i, (s i, y i) = mix d e (a i, x i)) ∧ Rest := by
  obtain ⟨rfl, rfl, rfl, rfl, rfl, rfl, rfl, rfl, rfl, h⟩ := h
  refine ⟨fun i => ?_, h⟩
  unfold mix
  simp only [addi, xori, ori, Host.shli, Host.shrui, bcast_pt, constantI]
  rw [shl_lt _ _ _ hd, shr_lt _ _ _ he]
  exact congrArg (Prod.mk _) (BitVec.xor_comm _ _)

/-- One injection's equations: two key words and a count are added. -/
theorem inj_of {n : BitVec 32} {c ka kb : S_.Idx → BitVec 32} {s y ba s' bb t bc y' : S.Idx → BitVec 32}
    (h : ba = broadcastInDim S ![] hb ka ∧ s' = addi s ba ∧ bb = broadcastInDim S ![] hb kb ∧ t = addi y bb ∧
      c = constantI S_ 32 n ∧ bc = broadcastInDim S ![] hb c ∧ y' = addi t bc ∧ Rest) :
    (∀ i, (s' i, y' i) = inj (ka pt) (kb pt) n (s i, y i)) ∧ Rest := by
  obtain ⟨rfl, rfl, rfl, rfl, rfl, rfl, rfl, h⟩ := h
  refine ⟨fun i => ?_, h⟩
  simp only [addi, bcast_pt, constantI]
  rfl

/-- A group's equations, four rounds and an injection. -/
theorem group_of {d1 f1 d2 f2 d3 f3 d4 f4 n : BitVec 32}
    (hd : (d1.toNat < 32 ∧ f1.toNat < 32 ∧ d2.toNat < 32 ∧ f2.toNat < 32) ∧
      d3.toNat < 32 ∧ f3.toNat < 32 ∧ d4.toNat < 32 ∧ f4.toNat < 32)
    {c1 e1 c2 e2 c3 e3 c4 e4 c ka kb : S_.Idx → BitVec 32}
    {a x s1 b1 l1 g1 r1 o1 y1 s2 b2 l2 g2 r2 o2 y2 s3 b3 l3 g3 r3 o3 y3 s4 b4 l4 g4 r4 o4 y4 p s q t w y : S.Idx → BitVec 32}
    (h :
      s1 = addi a x ∧ c1 = constantI S_ 32 d1 ∧ b1 = broadcastInDim S ![] hb c1 ∧
      l1 = Host.shli x b1 ∧ e1 = constantI S_ 32 f1 ∧ g1 = broadcastInDim S ![] hb e1 ∧
      r1 = Host.shrui x g1 ∧ o1 = ori l1 r1 ∧ y1 = xori s1 o1 ∧
      s2 = addi s1 y1 ∧ c2 = constantI S_ 32 d2 ∧ b2 = broadcastInDim S ![] hb c2 ∧
      l2 = Host.shli y1 b2 ∧ e2 = constantI S_ 32 f2 ∧ g2 = broadcastInDim S ![] hb e2 ∧
      r2 = Host.shrui y1 g2 ∧ o2 = ori l2 r2 ∧ y2 = xori s2 o2 ∧
      s3 = addi s2 y2 ∧ c3 = constantI S_ 32 d3 ∧ b3 = broadcastInDim S ![] hb c3 ∧
      l3 = Host.shli y2 b3 ∧ e3 = constantI S_ 32 f3 ∧ g3 = broadcastInDim S ![] hb e3 ∧
      r3 = Host.shrui y2 g3 ∧ o3 = ori l3 r3 ∧ y3 = xori s3 o3 ∧
      s4 = addi s3 y3 ∧ c4 = constantI S_ 32 d4 ∧ b4 = broadcastInDim S ![] hb c4 ∧
      l4 = Host.shli y3 b4 ∧ e4 = constantI S_ 32 f4 ∧ g4 = broadcastInDim S ![] hb e4 ∧
      r4 = Host.shrui y3 g4 ∧ o4 = ori l4 r4 ∧ y4 = xori s4 o4 ∧
      p = broadcastInDim S ![] hb ka ∧ s = addi s4 p ∧ q = broadcastInDim S ![] hb kb ∧ t = addi y4 q ∧
      c = constantI S_ 32 n ∧ w = broadcastInDim S ![] hb c ∧ y = addi t w ∧ Rest) :
    (∀ i, (s i, y i) =
      inj (ka pt) (kb pt) n (mix d4 f4 (mix d3 f3 (mix d2 f2 (mix d1 f1 (a i, x i)))))) ∧ Rest := by
  obtain ⟨⟨h1, h2, h3, h4⟩, h5, h6, h7, h8⟩ := hd
  obtain ⟨r1, h⟩ := round_of h1 h2 h
  obtain ⟨r2, h⟩ := round_of h3 h4 h
  obtain ⟨r3, h⟩ := round_of h5 h6 h
  obtain ⟨r4, h⟩ := round_of h7 h8 h
  obtain ⟨r5, h⟩ := inj_of h
  exact ⟨fun i => by rw [r5, r4, r3, r2, r1], h⟩

end Rounds

variable {V : Valuation τ sig (Elt Ideal)}

set_option maxRecDepth 8000 in
set_option maxHeartbeats 1000000 in
/-- The hash of one pair of words. -/
theorem hash1 (a0 a1 : TRef sig ⟨S_, .i32⟩) (x0 x1 : TRef sig ⟨S1, .i32⟩) (φ : fn_threefry2x32.Bufs)
    (h : Fix V (fn_threefry2x32.body (F := Ideal) a0 a1 x0 x1 φ)) (i : S1.Idx) :
    (rd V φ.v171 i, rd V φ.v175 i) = threefry (rd V a0 pt) (rd V a1 pt) (rd V x0 i) (rd V x1 i) := by
  unfold fn_threefry2x32.body fn_threefry2x32.body_part0 fn_threefry2x32.body_part1 fn_threefry2x32.body_part2
    fn_threefry2x32.body_part3 at h
  simp only [bind_assoc, fix_one_bind, eq_binary, eq_unary, eq_nullary] at h
  obtain ⟨e0, e1, e2, e3, e4, e5, e6, h⟩ := h
  have ek : rd V φ.v1 pt = third (rd V a0 pt) (rd V a1 pt) := by rw [e2, e1, e0]; rfl
  have ex : (rd V φ.v3 i, rd V φ.v5 i) = (rd V x0 i + rd V a0 pt, rd V x1 i + rd V a1 pt) := by
    rw [e4, e3, e6, e5]
    exact Prod.ext (congrArg (rd V x0 i + ·) (bcast_pt _ i)) (congrArg (rd V x1 i + ·) (bcast_pt _ i))
  obtain ⟨g1, h⟩ := group_of (by decide) h
  obtain ⟨g2, h⟩ := group_of (by decide) h
  obtain ⟨g3, h⟩ := group_of (by decide) h
  obtain ⟨g4, h⟩ := group_of (by decide) h
  obtain ⟨g5, -⟩ := group_of (by decide) h
  rw [g5 i, g4 i, g3 i, g2 i, g1 i, ex, ek]
  rfl

set_option maxRecDepth 8000 in
set_option maxHeartbeats 1000000 in
/-- The hash of one pair of words per element. -/
theorem hash2 (a0 a1 : TRef sig ⟨S_, .i32⟩) (x0 x1 : TRef sig ⟨S16384x4096, .i32⟩) (φ : fn_threefry2x32_0.Bufs)
    (h : Fix V (fn_threefry2x32_0.body (F := Ideal) a0 a1 x0 x1 φ)) (i : S16384x4096.Idx) :
    (rd V φ.v171 i, rd V φ.v175 i) = threefry (rd V a0 pt) (rd V a1 pt) (rd V x0 i) (rd V x1 i) := by
  unfold fn_threefry2x32_0.body fn_threefry2x32_0.body_part0 fn_threefry2x32_0.body_part1 fn_threefry2x32_0.body_part2
    fn_threefry2x32_0.body_part3 at h
  simp only [bind_assoc, fix_one_bind, eq_binary, eq_unary, eq_nullary] at h
  obtain ⟨e0, e1, e2, e3, e4, e5, e6, h⟩ := h
  have ek : rd V φ.v1 pt = third (rd V a0 pt) (rd V a1 pt) := by rw [e2, e1, e0]; rfl
  have ex : (rd V φ.v3 i, rd V φ.v5 i) = (rd V x0 i + rd V a0 pt, rd V x1 i + rd V a1 pt) := by
    rw [e4, e3, e6, e5]
    exact Prod.ext (congrArg (rd V x0 i + ·) (bcast_pt _ i)) (congrArg (rd V x1 i + ·) (bcast_pt _ i))
  obtain ⟨g1, h⟩ := group_of (by decide) h
  obtain ⟨g2, h⟩ := group_of (by decide) h
  obtain ⟨g3, h⟩ := group_of (by decide) h
  obtain ⟨g4, h⟩ := group_of (by decide) h
  obtain ⟨g5, -⟩ := group_of (by decide) h
  rw [g5 i, g4 i, g3 i, g2 i, g1 i, ex, ek]
  rfl

end Cert.Proof.Ref
-- ==== Proof.RefKey.lean ====
/- The reference's key: folding 1 into the key of seed 0. -/
module

public import proofs.«01_k».proof.Proof.RefHash

@[expose] public section

noncomputable section

namespace Cert.Proof.Ref

open Cert.ReferenceIdeal Cert.ReferenceIdeal.Gen Cert.Proof.Line Cert.Proof.Words

open Idealize.ShloMosaic Idealize.ShloMosaic.TcCoe Idealize.ShloMosaic.StableHlo
open Idealize.SL.Sem

/-- The only index of a vector of one. -/
abbrev at1 : S1.Idx := fun a => ⟨0, by fin_cases a; decide⟩
/-- The first and the second index of a pair. -/
abbrev fst2 : S2.Idx := fun a => ⟨0, by fin_cases a; decide⟩
abbrev snd2 : S2.Idx := fun a => ⟨1, by fin_cases a; decide⟩

/-- An array of one element has one index. -/
theorem idx1 (i : S1.Idx) : i = at1 := by
  funext a
  fin_cases a
  exact Subsingleton.elim (α := Fin 1) _ _

variable {α : Type}

/-- The slice at 0 of a pair is its first element, -/
theorem slice_fst (x : S2.Idx → α) (h : S2.Slices ![0] S1) (i : S1.Idx) : extractStridedSlice S1 ![0] x h i = x fst2 := by
  rw [idx1 i]; refine congrArg x ?_
  funext a; fin_cases a; rfl

/-- and the slice at 1 its second. -/
theorem slice_snd (x : S2.Idx → α) (h : S2.Slices ![1] S1) (i : S1.Idx) : extractStridedSlice S1 ![1] x h i = x snd2 := by
  rw [idx1 i]; refine congrArg x ?_
  funext a; fin_cases a; rfl

/-- An array of one element as a scalar holds that element. -/
theorem cast_pt (x : S1.Idx → α) (h : S1.ShapeCasts S_) : shapeCast S_ x h pt = x at1 := congrArg x (idx1 _)

/-- The first element of two joined is the one, -/
theorem pair_fst (a b : S1.Idx → α) (h) : concatenate S2 0 [⟨S1, a⟩, ⟨S1, b⟩] h fst2 = a at1 := by
  change a _ = _; exact congrArg a (idx1 _)

/-- and the second is the other. -/
theorem pair_snd (a b : S1.Idx → α) (h) : concatenate S2 0 [⟨S1, a⟩, ⟨S1, b⟩] h snd2 = b at1 := by
  change b _ = _; exact congrArg b (idx1 _)

variable {V : Valuation τ sig (Elt Ideal)}

/-- Folding a word into a key: the hash of the key at the word's two halves. -/
theorem fold (key : TRef sig ⟨S2, .i32⟩) (d : TRef sig ⟨S_, .i32⟩) (φ : fn_threefry_fold_in.Bufs)
    (hok : Ok 25 247 (fn_threefry2x32.body (F := Ideal) φ.v6 φ.v8 φ.v9 φ.v10 φ.call0))
    (h : Fix V (fn_threefry_fold_in.body (F := Ideal) key d φ)) :
    (rd V φ.v12 fst2, rd V φ.v12 snd2) =
      threefry (rd V key fst2) (rd V key snd2) 0 (rd V d pt &&& 4294967295) := by
  unfold fn_threefry_fold_in.body at h
  simp only [fix_one_bind, fix_bind hok, eq_binary, eq_unary, eq_nullary, eq_reshape] at h
  obtain ⟨e1, e2, e3, e4, e5, e6, e7, e8, e9, e10, e11, e12, e13, h1, e14, -⟩ := h
  have k0 : rd V φ.v6 pt = rd V key fst2 := by rw [e9]; exact (cast_pt _ _).trans (by rw [e8, slice_fst])
  have k1 : rd V φ.v8 pt = rd V key snd2 := by rw [e11]; exact (cast_pt _ _).trans (by rw [e10, slice_snd])
  have x0 : rd V φ.v9 at1 = 0 := by
    rw [e12, slice_fst, e7, pair_fst, e3, bcast_pt, e2, e1]; rfl
  have x1 : rd V φ.v10 at1 = rd V d pt &&& 4294967295 := by
    rw [e13, slice_snd, e7, pair_snd, e6, bcast_pt, e5, e4]; rfl
  rw [e14, pair_fst, pair_snd, hash1 _ _ _ _ _ h1 at1, k0, k1, x0, x1]

/-- The key every draw is hashed under. -/
theorem key_eq : threefry 0 0 0 1 = (key0, key1) := by decide +kernel

end Cert.Proof.Ref
-- ==== Proof.RefDraw.lean ====
/- The reference's uniform draws, as equations of the contents it ends in. -/
module

public import proofs.«01_k».proof.Proof.RefKey
public import proofs.«01_k».proof.Proof.Values

@[expose] public section

noncomputable section

namespace Cert.Proof.Ref

open Cert.ReferenceIdeal Cert.ReferenceIdeal.Gen Cert.Proof.Line Cert.Proof.Words Cert.Proof.Values

open Idealize.ShloMosaic Idealize.ShloMosaic.TcCoe Idealize.ShloMosaic.StableHlo
open Idealize.SL.Sem

/-- The linear index of an element, as the reference computes it in 64 bits. -/
def lin64 (i : S16384x4096.Idx) : BitVec 64 := 4096#64 * BitVec.ofNat 64 (i 0).val + 1#64 * BitVec.ofNat 64 (i 1).val

/-- It is the row times 4096 plus the column, -/
theorem lin64_eq (i : S16384x4096.Idx) : lin64 i = BitVec.ofNat 64 ((i 0).val * 4096 + (i 1).val) := by
  unfold lin64
  rw [BitVec.one_mul, BitVec.ofNat_add, Nat.mul_comm, BitVec.ofNat_mul]

/-- which is below 2 to the 26th. -/
theorem lin64_lt (i : S16384x4096.Idx) : (i 0).val * 4096 + (i 1).val < 2 ^ 26 := by
  have h0 : (i 0).val < 16384 := (i 0).isLt
  have h1 : (i 1).val < 4096 := (i 1).isLt
  omega

/-- Its low word is the linear index in 32 bits. -/
theorem low (i : S16384x4096.Idx) : (lin64 i).setWidth 32 = lin (i 0).val (i 1).val := by
  have h := lin64_lt i
  rw [lin64_eq]
  apply BitVec.eq_of_toNat_eq
  simp only [lin, BitVec.toNat_setWidth, BitVec.toNat_ofNat]
  omega

/-- Its high word is zero. -/
theorem high (i : S16384x4096.Idx) : (IntOp.shrui .host (lin64 i) 32).setWidth 32 = 0 := by
  have h := lin64_lt i
  rw [lin64_eq, show ∀ x : BitVec 64, IntOp.shrui .host x 32 = x >>> 32 from fun _ => rfl]
  apply BitVec.eq_of_toNat_eq
  simp only [BitVec.toNat_setWidth, BitVec.toNat_ushiftRight, BitVec.toNat_ofNat, Nat.shiftRight_eq_div_pow]
  have : ((0 : BitVec 32)).toNat = 0 := rfl
  omega

variable {V : Valuation τ sig (Elt Ideal)}

/-- What a draw from 23 random bits is: the bits placed in the mantissa of a number from 1 to 2, moved
    down by 1, scaled to the interval, and held to its lower end. -/
def scaled (lo hi : EReal) (b : BitVec 32) : EReal :=
  max lo ((Ideal.ofBits .f32 (b ||| 1065353216) - Ideal.ofBits .f32 0x3F800000#32) * (hi - lo) + lo)

/-- The uniform draw of every element under a key. -/
theorem uniform (key : TRef sig ⟨S2, .i32⟩) (lo hi : TRef sig ⟨S_, .f32⟩) (φ : fn_uniform.Bufs)
    (hok : Ok 272 494 (fn_threefry2x32_0.body (F := Ideal) φ.v5 φ.v7 φ.v18 φ.v17 φ.call0))
    (h : Fix V (fn_uniform.body (F := Ideal) key lo hi φ)) (i : S16384x4096.Idx) (w : BitVec 32 × BitVec 32)
    (hw : threefry (rd V key fst2) (rd V key snd2) 0 (lin (i 0).val (i 1).val) = w) :
    rd V φ.v34 i = scaled (rd V lo pt) (rd V hi pt) ((w.1 ^^^ w.2) >>> (9 : BitVec 32)) := by
  unfold fn_uniform.body at h
  simp only [fix_one_bind, fix_bind hok, eq_binary, eq_unary, eq_nullary, eq_reshape] at h
  obtain ⟨e0, e1, e2, e3, e4, e5, e6, e7, e8, e9, e10, e11, e12, e13, e14, e15, e16, e17, e18, e19, e20, e21, h1,
    e22, e23, e24, e25, e26, e27, e28, e29, e30, e31, e32, e33, e34, e35, e36, e37, e38, e39, -⟩ := h
  have k0 : rd V φ.v5 pt = rd V key fst2 := by rw [e5]; exact (cast_pt _ _).trans (by rw [e4, slice_fst])
  have k1 : rd V φ.v7 pt = rd V key snd2 := by rw [e7]; exact (cast_pt _ _).trans (by rw [e6, slice_snd])
  have hl : rd V φ.v14 i = lin64 i := by rw [e16, e12, e11, e10, e8, e15, e14, e13, e9]; rfl
  have x1 : rd V φ.v17 i = lin (i 0).val (i 1).val := by
    rw [e20, ← low]; exact congrArg (BitVec.setWidth 32) hl
  have x0 : rd V φ.v18 i = 0 := by
    rw [e21, ← high i, e19, e18, e17, ← hl]; rfl
  have ht : (rd V φ.call0.v171 i, rd V φ.call0.v175 i) = w := by rw [hash2 _ _ _ _ _ h1 i, k0, k1, x0, x1]; exact hw
  have hb : rd V φ.v22 i = (w.1 ^^^ w.2) >>> (9 : BitVec 32) := by
    have hx : rd V φ.v20 i = w.1 ^^^ w.2 := by rw [e22]; exact congrArg (fun p => p.1 ^^^ p.2) ht
    rw [e25, e24, e23, ← hx]; exact shr_lt .host _ 9 (by decide)
  have hlo : ∀ j, rd V φ.v2 j = rd V lo pt := fun j => by rw [e2, bcast_pt, e0]; rfl
  have hhi : ∀ j, rd V φ.v3 j = rd V hi pt := fun j => by rw [e3, bcast_pt, e1]; rfl
  have h25 : rd V φ.v25 i = Ideal.ofBits .f32 ((w.1 ^^^ w.2) >>> (9 : BitVec 32) ||| 1065353216) := by
    rw [e29, e28, e27, e26, ← hb]; rfl
  have h27 : rd V φ.v27 i = rd V φ.v25 i - Ideal.ofBits .f32 0x3F800000#32 := by rw [e32, e31, e30]; rfl
  have h29 : rd V φ.v29 i = rd V hi pt - rd V lo pt := by
    rw [e34, e33]; exact congrArg₂ (· - ·) (hhi _) (hlo _)
  have h31 : rd V φ.v31 i = rd V lo pt := by rw [e36]; exact hlo _
  have h33 : rd V φ.v33 i = rd V lo pt := by rw [e38]; exact hlo _
  have h32 : rd V φ.v32 i = rd V φ.v27 i * rd V φ.v29 i + rd V φ.v31 i := by rw [e37, e35]; rfl
  have h34 : rd V φ.v34 i = max (rd V φ.v33 i) (rd V φ.v32 i) := by rw [e39]; rfl
  rw [h34, h33, h32, h31, h29, h27, h25]
  rfl

end Cert.Proof.Ref
-- ==== Proof.RefMain.lean ====
/- The reference's run: it ends, keeps its argument, and leaves one closed expression per element. -/
module

public import proofs.«01_k».proof.Proof.RefDraw
public import Idealize.ShloMosaic.Lib.Quiescent

@[expose] public section

noncomputable section

namespace Cert.Proof.Ref

open Cert.ReferenceIdeal Cert.ReferenceIdeal.Gen Cert.Proof.Line Cert.Proof.Words Cert.Proof.Values

open Idealize.ShloMosaic Idealize.ShloMosaic.TcCoe Idealize.ShloMosaic.StableHlo
open Idealize.SL.Sem

/-- What the reference leaves at one element holding `x` with the linear index `j`. -/
def refAt (j : BitVec 32) (x : EReal) : EReal :=
  x + Scalar.select
    (Ideal.cmp .ole (scaled (Ideal.ofBits .f32 0x00000000#32) (Ideal.ofBits .f32 0x3F800000#32) (draw j))
      (Ideal.div (x + Ideal.ofBits .f32 0x3F800000#32) (Ideal.ofBits .f32 0x40000000#32)))
    (Ideal.ofBits .f32 0x3F800000#32 - x) (-x - Ideal.ofBits .f32 0x3F800000#32)

/-- The result array of the reference. -/
def refOut (x : S16384x4096.Idx → EReal) (i : S16384x4096.Idx) : EReal := refAt (lin (i 0).val (i 1).val) (x i)

variable {V : Valuation τ sig (Elt Ideal)}

/-- What contents that satisfy the reference's equations hold at its result. -/
theorem value (d : Dev nD) (h : Fix V (main (F := Ideal) d)) :
    V (Proc.devRef .tc main_v20) = refOut (V (Proc.devRef .tc main_arg0)) := by
  unfold main at h
  simp only [fix_one_bind, fix_bind ok_fold, fix_bind ok_uniform, fix_bind ok_where, req_binary, req_unary,
    req_nullary] at h
  obtain ⟨e0, e1, e2, e3, e4, e5, e6, e7, e8, e9, e10, hf, e11, e12, hu, e13, e14, e15, e16, e17, e18, e19, e20,
    e21, e22, e23, e24, e25, e26, hw, e27, -⟩ := h
  unfold fn_where.body at hw
  simp only [fix_one_bind, eq_ternary] at hw
  have k0 : rd (T := ⟨S2, .i32⟩) V (.of main_v6) fst2 = 0#32 := by
    refine (congrFun e9 fst2).trans ?_
    rw [pair_fst, e4, bcast_pt, e3, e2, e1, e0]; rfl
  have k1 : rd (T := ⟨S2, .i32⟩) V (.of main_v6) snd2 = 0#32 := by
    refine (congrFun e9 snd2).trans ?_
    rw [pair_snd, e8, bcast_pt, e7, e6, e5, e0]; rfl
  have k2 : rd (T := ⟨S_, .i32⟩) V (.of main_c_2) pt = 1#32 := congrFun e10 pt
  have hk : (rd V main_call0.v12 fst2, rd V main_call0.v12 snd2) = (key0, key1) := by
    rw [fold _ _ _ ok_hash1 hf, k0, k1, k2]; exact key_eq
  have kf : rd (T := ⟨S2, .i32⟩) V (.of main_v7) fst2 = key0 := congrArg Prod.fst hk
  have ks : rd (T := ⟨S2, .i32⟩) V (.of main_v7) snd2 = key1 := congrArg Prod.snd hk
  funext i
  have hp : V (Proc.devRef .tc main_v8) i = scaled (Ideal.ofBits .f32 0x00000000#32) (Ideal.ofBits .f32 0x3F800000#32)
      (draw (lin (i 0).val (i 1).val)) := by
    have u := uniform _ _ _ _ ok_hash2 hu i _ (by rw [kf, ks])
    rw [draw_eq]
    refine u.trans ?_
    rw [show rd (T := ⟨S_, .f32⟩) V (.of main_cst) pt = Ideal.ofBits .f32 0x00000000#32 from congrFun e11 pt,
      show rd (T := ⟨S_, .f32⟩) V (.of main_cst_3) pt = Ideal.ofBits .f32 0x3F800000#32 from congrFun e12 pt]
  have hs : V (Proc.devRef .tc main_v19) i = Scalar.select (V (Proc.devRef .tc main_v13) i)
      (V (Proc.devRef .tc main_v15) i) (V (Proc.devRef .tc main_v18) i) := congrFun hw.1 i
  obtain ⟨x, hx⟩ : ∃ x : EReal, V (Proc.devRef .tc main_arg0) i = x := ⟨_, rfl⟩
  obtain ⟨y, hy⟩ : ∃ y : EReal, V (Proc.devRef .tc main_v19) i = y := ⟨_, rfl⟩
  have h12 : V (Proc.devRef .tc main_v12) i = Ideal.div (x + Ideal.ofBits .f32 0x3F800000#32)
      (Ideal.ofBits .f32 0x40000000#32) := by rw [e18, e17, e16, e15, e14, e13, ← hx]; rfl
  have h13 : V (Proc.devRef .tc main_v13) i = Ideal.cmp .ole (V (Proc.devRef .tc main_v8) i) (V (Proc.devRef .tc main_v12) i) := by
    rw [e19]; rfl
  have h15 : V (Proc.devRef .tc main_v15) i = Ideal.ofBits .f32 0x3F800000#32 - x := by
    rw [e22, e21, e20, ← hx]; rfl
  have h18 : V (Proc.devRef .tc main_v18) i = -x - Ideal.ofBits .f32 0x3F800000#32 := by
    rw [e26, e25, e24, e23, ← hx]; rfl
  have h20 : V (Proc.devRef .tc main_v20) i = x + y := by
    rw [e27, ← hx, ← hy]; rfl
  rw [h20, ← hy, hs, h13, h12, h15, h18, hp]
  unfold refOut
  rw [hx]
  rfl

variable (m : (ℓ : Loc nD τ sig) → Buf (Elt Ideal) ℓ) (ρ : Dev nD → PrngReg)

/-- The reference's run from any memory. -/
theorem run_ref : θ_run (Cert.ReferenceIdeal.defs (F := Ideal)) (onTc (τ := τ) (main (F := Ideal)))
    ⟨m, fun _ => 0, ρ⟩ fun r => (∀ c : Dev nD,
      r.2.mem ((c.tc : Thread nD τ).loc main_arg0) = m ((c.tc : Thread nD τ).loc main_arg0) ∧
      r.2.mem ((c.tc : Thread nD τ).loc main_v20) = refOut (m ((c.tc : Thread nD τ).loc main_arg0))) ∧
      r.2.sem = fun _ => 0 := by
  refine (θ_run _ _ _).mono ?_ (run_seq (by decide) (by decide) _ _ (fun d => opsOf (main (F := Ideal) d))
    (fun d => (ok_main d).1) (fun d => List.forall_iff_forall_mem.mpr fun op hop => (chain_plain (ok_main d).2 op hop).1)
    m ρ (fun d op hop => (chain_plain (ok_main d).2 op hop).2))
  intro r hr
  refine ⟨fun c => ?_, sem_eq_zero_of_no_sems rfl _⟩
  have ha : after (opsOf (main (F := Ideal) c)) (launchContents m c) (Proc.devRef .tc main_arg0) =
      m ((c.tc : Thread nD τ).loc main_arg0) :=
    chain_keeps (ok_main c).2 _ main_arg0 (by decide)
  refine ⟨(hr c main_arg0).trans ha, (hr c main_v20).trans ?_⟩
  rw [← ha]
  exact value c (chain_fixed (ok_main c).2 _)

end Cert.Proof.Ref
-- ==== Proof.Real.lean ====
/- The two programs' expressions for one element, over the reals. -/
module

public import proofs.«01_k».proof.Proof.RefMain
public import Idealize.ShloMosaic.Lib.IdealHost

@[expose] public section

noncomputable section

namespace Cert.Proof.Real

open Cert.Proof.Ref Cert.Proof.Words Cert.Proof.Values

open Idealize.ShloMosaic

/-- The kernel's scale, `2 ^ 22`. -/
theorem lit_scale : Ideal.ofBits .f32 0x4A800000#32 = ((4194304 : ℝ) : EReal) := by
  simp [Ideal.ofBits, Ideal.ieee, -EReal.coe_mul, -EReal.coe_neg]; norm_num

/-- The word of 2 is the number 2; -/
theorem lit_two : Ideal.ofBits .f32 0x40000000#32 = ((2 : ℝ) : EReal) := by
  simp [Ideal.ofBits, Ideal.ieee, -EReal.coe_mul, -EReal.coe_neg]; norm_num

/-- and the word of -1 is the number -1. -/
theorem lit_neg : Ideal.ofBits .f32 0xBF800000#32 = ((-1 : ℝ) : EReal) := by
  simp [Ideal.ofBits, Ideal.ieee, -EReal.coe_mul, -EReal.coe_neg]; norm_num

/-- A draw has 23 bits. -/
theorem draw_lt (j : BitVec 32) : (draw j).toNat < 2 ^ 23 := by
  unfold draw
  generalize (rounds key0 key1 key2 (key0, j + key1)).1 ^^^ (rounds key0 key1 key2 (key0, j + key1)).2 = w
  rw [BitVec.ushiftRight_eq', BitVec.toNat_ushiftRight, Nat.shiftRight_eq_div_pow]
  have := w.isLt
  have h9 : ((9 : BitVec 32)).toNat = 9 := rfl
  rw [h9]
  omega

/-- The mantissa bits `b` under the exponent of 1 are the number `1 + b / 2 ^ 23`. -/
theorem lit_draw (b : BitVec 32) (hb : b.toNat < 2 ^ 23) :
    Ideal.ofBits .f32 (b ||| 1065353216) = ((1 + (b.toNat : ℝ) / 8388608 : ℝ) : EReal) := by
  have hn : (b ||| 1065353216).toNat = 2 ^ 23 * 127 + b.toNat := by
    rw [BitVec.toNat_or, Nat.two_pow_add_eq_or_of_lt hb, Nat.or_comm]; rfl
  have e0 : ((b ||| 1065353216).extractLsb' 0 23).toNat = b.toNat := by
    rw [BitVec.extractLsb'_toNat, hn, Nat.shiftRight_eq_div_pow]; omega
  have e1 : ((b ||| 1065353216).extractLsb' 23 8).toNat = 127 := by
    rw [BitVec.extractLsb'_toNat, hn, Nat.shiftRight_eq_div_pow]; omega
  have e2 : (b ||| 1065353216).extractLsb' 31 1 = 0 := by
    apply BitVec.eq_of_toNat_eq
    rw [BitVec.extractLsb'_toNat, hn, Nat.shiftRight_eq_div_pow]
    show _ = 0
    omega
  unfold Ideal.ofBits Ideal.ieee
  simp only [e0, e1]
  rw [show 8 + 23 = 31 from rfl, e2, if_neg (by norm_num), if_neg (by norm_num)]
  refine congrArg _ ?_
  rw [show ((0 : BitVec 1) == 1#1) = false from rfl]
  norm_num
  ring

/-- The scaled draw of 23 bits is the bits as a fraction. -/
theorem scaled_eq (b : BitVec 32) (hb : b.toNat < 2 ^ 23) :
    scaled (Ideal.ofBits .f32 0x00000000#32) (Ideal.ofBits .f32 0x3F800000#32) b = (((b.toNat : ℝ) / 8388608 : ℝ) : EReal) := by
  unfold scaled
  rw [lit_draw b hb, Ideal.ofBits_one_f32, Ideal.ofBits_zero_f32, show (1 : EReal) = ((1 : ℝ) : EReal) from rfl,
    show (0 : EReal) = ((0 : ℝ) : EReal) from rfl, ← EReal.coe_sub, ← EReal.coe_sub, ← EReal.coe_mul, ← EReal.coe_add]
  have : (0 : ℝ) ≤ (b.toNat : ℝ) / 8388608 := by positivity
  rw [show (1 + (b.toNat : ℝ) / 8388608 - 1) * (1 - 0) + 0 = (b.toNat : ℝ) / 8388608 by ring]
  exact max_eq_right (EReal.coe_le_coe_iff.mpr this)

/-- At a finite element both programs' expressions are the same number. -/
theorem sign_eq (j : BitVec 32) (x : ℝ) : sign (F := Ideal) j ((x : ℝ) : EReal) = refAt j ((x : ℝ) : EReal) := by
  have hd := draw_lt j
  have hi : (draw j).toInt = ((draw j).toNat : ℤ) := by
    rw [BitVec.toInt_eq_toNat_of_lt]; omega
  unfold sign refAt
  rw [scaled_eq _ hd]
  show Scalar.select (Ideal.cmp .ole (((draw j).toInt : ℝ) : EReal) (((x : EReal) + Ideal.ofBits .f32 0x3F800000#32) * Ideal.ofBits .f32 0x4A800000#32))
    (Ideal.ofBits .f32 0x3F800000#32) (Ideal.ofBits .f32 0xBF800000#32) = _
  unfold Ideal.div
  rw [hi, lit_scale, lit_neg, lit_two, Ideal.ofBits_one_f32, show (1 : EReal) = ((1 : ℝ) : EReal) from rfl,
    if_neg (by norm_num), ← EReal.coe_add, ← EReal.coe_inv, ← EReal.coe_mul, ← EReal.coe_mul, ← EReal.coe_sub, ← EReal.coe_neg,
    ← EReal.coe_sub]
  have hc : Ideal.cmp .ole (((((draw j).toNat : ℤ) : ℝ) : ℝ) : EReal) (((x + 1) * 4194304 : ℝ) : EReal) =
      Ideal.cmp .ole ((((draw j).toNat : ℝ) / 8388608 : ℝ) : EReal) (((x + 1) * 2⁻¹ : ℝ) : EReal) := by
    unfold Ideal.cmp
    simp only [EReal.coe_le_coe_iff]
    refine congrArg BitVec.ofBool (decide_eq_decide.mpr ?_)
    rw [Int.cast_natCast]
    constructor <;> intro h <;> linarith
  rw [hc]
  generalize Ideal.cmp .ole _ _ = t
  unfold Scalar.select
  split
  · rw [← EReal.coe_add]; exact congrArg _ (by ring)
  · rw [← EReal.coe_add]; exact congrArg _ (by ring)

end Cert.Proof.Real
-- ==== Proof.Finite.lean ====
/- What the precondition says: every element of the argument is a real number. -/
module

public import proofs.«01_k».proof.Pre_finite
public import Idealize.ShloMosaic.PureOps.Ideal
public import Idealize.ShloMosaic.Lib.ReduceAll

@[expose] public section

noncomputable section

namespace Cert.Proof.Finite

open Cert.Pre_finite

open Idealize.ShloMosaic

/-- The precondition's side conditions hold. -/
theorem facts : Cert.Pre_finite.Facts where
  bcast_S_S16384x4096 := by decide
  reducesTo_S16384x4096_S_d0_1 := by decide
  h_S_ := by decide

/-- The word of the comparison is the top. -/
theorem lit_inf : Ideal.ofBits .f32 0x7F800000#32 = ⊤ := by
  simp [Ideal.ofBits, Ideal.ieee]

/-- A number below the top in size is real. -/
theorem real_of_abs (x : EReal) (h : max x (-x) < ⊤) : ∃ r : ℝ, x = r := by
  induction x with
  | bot => simp at h
  | top => simp at h
  | coe r => exact ⟨r, rfl⟩

/-- Where the precondition holds, every element is real. -/
theorem real_of_pre [hp : Cert.Pre_finite.Facts] (x : FVec Ideal S16384x4096 .f32) (h : Cert.Pre_finite.fn x = fun _ => 1#1)
    (i : S16384x4096.Idx) : ∃ r : ℝ, (x i : EReal) = r := by
  haveI : Subsingleton S_.Idx := ⟨fun a b => funext fun k => k.elim0⟩
  have e := Host.reduce_andi_all _ _ _ _ (fun a => a.elim0) (congrFun h fun a => a.elim0) i
  refine real_of_abs _ ?_
  have e' : Ideal.cmp .olt (max (x i : EReal) (-(x i : EReal))) (Ideal.ofBits .f32 0x7F800000#32) = 1#1 := e
  rw [lit_inf] at e'
  by_contra hn
  rw [show Ideal.cmp .olt (max (x i : EReal) (-(x i : EReal))) ⊤ = 0#1 by simp only [Ideal.cmp, hn]; rfl] at e'
  exact absurd e' (by decide)

end Cert.Proof.Finite
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import proofs.«01_k».proof.Proof.Main
public import proofs.«01_k».proof.Proof.RefMain
public import proofs.«01_k».proof.Proof.Real
public import proofs.«01_k».proof.Proof.Finite

@[expose] public section

noncomputable section

namespace Cert.Proof

open Idealize.ShloMosaic Idealize.SL.Sem

/-- The two prints of the kernel have the same bodies, label by label. -/
theorem bodies_eq {F : FTy → Type} [FloatOps F] : Cert.Kernel.defs₀ (F := F) = Cert.KernelIdeal.defs₀ (F := F) := by
  funext k ℓ a
  cases k <;> fin_cases ℓ <;> rfl

/-- So they have the same table of bodies. -/
theorem defs_eq {F : FTy → Type} [FloatOps F] : Cert.Kernel.defs (F := F) = Cert.KernelIdeal.defs (F := F) :=
  congrArg (fun b => Cert.KernelIdeal.sc.defs (Pipeline.defs Cert.KernelIdeal.pcfgs b)) bodies_eq

/-- The kernel over the words ends, keeps its argument and clears its counters. -/
theorem frame_kernel : Cert.quiescent_Kernel (hKernel := Cert.Kernel.Gen.facts) := by
  intro m ρ _
  rw [defs_eq]
  exact (θ_run Cert.KernelIdeal.defs _ _).mono (fun _ h => ⟨fun c => (h.1 c).1, h.2⟩) (Run.run_main (F := Bits) m ρ)

/-- So does the kernel over the extended reals, from any argument. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Run.run_main (F := Ideal) m ρ)

/-- So does the reference, from any argument. -/
theorem frame_reference : Cert.quiescent_ReferenceIdeal (hReferenceIdeal := Cert.ReferenceIdeal.Gen.facts) := fun m ρ _ =>
  (θ_run Cert.ReferenceIdeal.defs _ _).mono (fun _ h => ⟨fun c => (h.1 c).1, h.2⟩) (Ref.run_ref m ρ)

/-- On an argument of real numbers the kernel's array and the reference's are one. -/
theorem out_eq (x : Cert.KernelIdeal.S16384x4096.Idx → Ideal .f32) (h : ∀ i, ∃ r : ℝ, (x i : EReal) = r) :
    Values.out x = Ref.refOut x := by
  funext i
  obtain ⟨r, hr⟩ := h i
  simp only [Values.out, Ref.refOut]
  rw [show x i = ((r : ℝ) : EReal) from hr]
  exact Real.sign_eq _ r

/-- From arguments that agree and are finite, the kernel and the reference end with equal results. -/
theorem equal_results : Cert.algebraic_KernelIdeal_ReferenceIdeal_pre_finite (hKernelIdeal := Cert.KernelIdeal.Gen.facts)
    (hReferenceIdeal := Cert.ReferenceIdeal.Gen.facts) (hPre_finite := Finite.facts) := by
  intro m g m' g' hp hm
  refine ⟨fun c => Values.out (Run.mat m c), ?_, ?_⟩
  · exact (θ_run Cert.KernelIdeal.defs _ _).mono (fun _ h c => ⟨(h.1 c).2, (h.1 c).1⟩) (Run.run_main (F := Ideal) m g)
  · refine (θ_run Cert.ReferenceIdeal.defs _ _).mono (fun _ h c => ⟨(h.1 c).2.trans ?_, (h.1 c).1⟩) (Ref.run_ref m' g')
    rw [hm c]
    exact (out_eq _ (Finite.real_of_pre (hp := Finite.facts) _ (hp c))).symm

/-- The claims together. -/
theorem claim : Cert.Claim :=
  ⟨Cert.Kernel.Gen.facts, Cert.KernelIdeal.Gen.facts, Cert.ReferenceIdeal.Gen.facts, Finite.facts,
    frame_kernel, frame_ideal, fun m ρ _ => frame_ideal m ρ trivial, frame_reference,
    fun m ρ _ => frame_reference m ρ trivial, trivial, equal_results⟩

end Cert.Proof

end
